-- ==== Defs.lean ====
def Pre_Kernel [hPre_class_in_range : Cert.Pre_class_in_range.Facts] (m : (ℓ : Loc Cert.Kernel.nD Cert.Kernel.τ Cert.Kernel.sig) → Buf (Elt Bits) ℓ) : Prop :=
  ∀ c : Dev Cert.Kernel.nD,
    (Cert.Pre_class_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_class_in_range : Cert.Pre_class_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_class_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_class_in_range : Cert.Pre_class_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_class_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_class_in_range : Cert.Pre_class_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_class_in_range : Cert.Pre_class_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_class_in_range : Cert.Pre_class_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_class_in_range : Cert.Pre_class_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_class_in_range : Cert.Pre_class_in_range.Facts),
    quiescent_Kernel (hKernel := hKernel) (hPre_class_in_range := hPre_class_in_range)
    ∧ quiescent_KernelIdeal (hKernelIdeal := hKernelIdeal) (hPre_class_in_range := hPre_class_in_range)
    ∧ quiescent_ReferenceIdeal (hReferenceIdeal := hReferenceIdeal) (hPre_class_in_range := hPre_class_in_range)
    ∧ preserves_Kernel_KernelIdeal
    ∧ algebraic_KernelIdeal_ReferenceIdeal (hKernelIdeal := hKernelIdeal) (hReferenceIdeal := hReferenceIdeal) (hPre_class_in_range := hPre_class_in_range)
-- ==== Pre_class_in_range.lean ====
abbrev S262144x32 : Shape := ⟨2, ![262144, 32]⟩
abbrev S262144x64 : Shape := ⟨2, ![262144, 64]⟩
abbrev S262144x1 : Shape := ⟨2, ![262144, 1]⟩
abbrev S262144 : Shape := ⟨1, ![262144]⟩
abbrev S_ : Shape := ⟨0, ![]⟩

class Facts : Prop where
  slices_S262144x32_S262144x1_0_8 : S262144x32.Slices ![0, 8] S262144x1
  shapeCasts_S262144x1_S262144 : S262144x1.ShapeCasts S262144
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : FVec F S262144x32 .f32) (main_arg1 : FVec F S262144x64 .f32) : IVec S_ 1 :=
  let main_v0 : FVec F S262144x1 .f32 := (extractStridedSlice S262144x1 ![0, 8] · slices_S262144x32_S262144x1_0_8) main_arg0
  let main_v1 : FVec F S262144 .f32 := shapeCast S262144 main_v0 shapeCasts_S262144x1_S262144
  let main_v2 : IVec S262144 32 := fptosi 32 main_v1
  let main_c : IVec S_ 32 := constantI S_ 32 0#32
  let main_v3 : IVec S262144 32 := broadcastInDim S262144 ![] bcast_S_S262144 main_c
  let main_v4 : IVec S262144 1 := cmpi .sge main_v2 main_v3
  let main_c_0 : IVec S_ 32 := constantI S_ 32 64#32
  let main_v5 : IVec S262144 32 := broadcastInDim S262144 ![] bcast_S_S262144 main_c_0
  let main_v6 : IVec S262144 1 := cmpi .slt main_v2 main_v5
  let main_v7 : IVec S262144 1 := andi main_v4 main_v6
  let main_c_1 : IVec S_ 1 := constantI S_ 1 1#1
  let main_v8 : IVec S_ 1 := (fun x v => Host.reduce IntOp.andi x v reducesTo_S262144_S_d0 h_S_) main_v7 main_c_1
  main_v8
-- ==== Kernel.lean ====
abbrev S262144x32 : Shape := ⟨2, ![262144, 32]⟩
abbrev S262144x64 : Shape := ⟨2, ![262144, 64]⟩
abbrev S262144 : Shape := ⟨1, ![262144]⟩
abbrev S256x32 : Shape := ⟨2, ![256, 32]⟩
abbrev S256x64 : Shape := ⟨2, ![256, 64]⟩
abbrev S8192 : Shape := ⟨1, ![8192]⟩
abbrev S_ : Shape := ⟨0, ![]⟩
abbrev S16 : Shape := ⟨1, ![16]⟩
abbrev S128x32 : Shape := ⟨2, ![128, 32]⟩
abbrev S128x64 : Shape := ⟨2, ![128, 64]⟩

abbrev nBuf : Table → Nat
  | .hbm => 3
  | .local .scVector .vmem => 3
  | _ => 0

abbrev bufTy : (tb : Table) → Fin (nBuf tb) → BufTy
  | .hbm, ⟨0, _⟩ => ⟨S262144x32, .f32⟩
  | .hbm, ⟨1, _⟩ => ⟨S262144x64, .f32⟩
  | .hbm, ⟨2, _⟩ => ⟨S262144, .f32⟩
  | .local .scVector .vmem, ⟨0, _⟩ => ⟨S256x32, .f32⟩
  | .local .scVector .vmem, ⟨1, _⟩ => ⟨S256x64, .f32⟩
  | .local .scVector .vmem, ⟨2, _⟩ => ⟨S8192, .f32⟩
  | _, _ => ⟨S262144x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v5 : BitVec 32 := Scalar.addi v2 c0_i32
  let c0_i32_2 : BitVec 32 := 0#32
  ![v5.toNat, 0]
def k0_off2 (i : grid0.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v10 : BitVec 32 := Scalar.addi v2 c0_i32_6
  let c0_i32_9 : BitVec 32 := 0#32
  ![v10.toNat, 0]
@[reducible] def k0_t1_loop : Scf.Loop 32 :=
  let c0_i32_41 : BitVec 32 := 0#32
  let c8_i32_42 : BitVec 32 := 8#32
  let v35 : BitVec 32 := Scalar.addi c0_i32_41 c8_i32_42
  let c1_i32 : BitVec 32 := 1#32
  ⟨c0_i32_41, v35, c1_i32⟩

def k0_chk1 (v4 : IVec S16 32) (v1352 : IVec S16 32) : Prop :=
  (∀ a x, ((![v1352, v4] : Fin 2 → IVec S16 32) a x).toNat < S256x32.size a)
theorem k0_idx1_inb : ∀ (v4 : IVec S16 32) (v1352 : IVec S16 32) (k0_hw1 : k0_chk1 v4 v1352), ∀ a x, ((![v1352, v4] : Fin 2 → IVec S16 32) a x).toNat < S256x32.size a := fun v4 v1352 k0_hw1 => k0_hw1

def k0_chk2 (v1352 : IVec S16 32) (v1354 : IVec S16 32) : Prop :=
  (∀ a x, ((![v1352, v1354] : Fin 2 → IVec S16 32) a x).toNat < S256x64.size a)
theorem k0_idx2_inb : ∀ (v1352 : IVec S16 32) (v1354 : IVec S16 32) (k0_hw2 : k0_chk2 v1352 v1354), ∀ a x, ((![v1352, v1354] : Fin 2 → IVec S16 32) a x).toNat < S256x64.size a := fun v1352 v1354 k0_hw2 => k0_hw2
def k0_off3 (k0_t1 : Fin k0_t1_loop.trips) : Fin 1 → Nat :=
  let c0_i32_2049 : BitVec 32 := 0#32
  let c0_i32_41 : BitVec 32 := 0#32
  let c1_i32 : BitVec 32 := 1#32
  let arg10 : BitVec 32 := Scf.iv c0_i32_41 c1_i32 k0_t1
  let c16_i32_2048 : BitVec 32 := 16#32
  let v1358 : BitVec 32 := Scalar.muli arg10 c16_i32_2048
  let v1359 : BitVec 32 := Scalar.addi c0_i32_2049 v1358
  let v1360 : Index := Scalar.indexCast v1359
  ![v1360.toNat]
def k0_off4 (i : grid0.Coords) (c128_i32_44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v36 : BitVec 32 := Scalar.addi v2 c128_i32_44
  let c0_i32_47 : BitVec 32 := 0#32
  ![v36.toNat, 0]
def k0_off5 (i : grid0.Coords) (c128_i32_51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v41 : BitVec 32 := Scalar.addi v2 c128_i32_51
  let c0_i32_54 : BitVec 32 := 0#32
  ![v41.toNat, 0]
@[reducible] def k0_t2_loop : Scf.Loop 32 :=
  let c0_i32_72 : BitVec 32 := 0#32
  let c8_i32_73 : BitVec 32 := 8#32
  let v56 : BitVec 32 := Scalar.addi c0_i32_72 c8_i32_73
  let c1_i32_74 : BitVec 32 := 1#32
  ⟨c0_i32_72, v56, c1_i32_74⟩

def k0_chk3 (v4 : IVec S16 32) (v1352 : IVec S16 32) : Prop :=
  (∀ a x, ((![v1352, v4] : Fin 2 → IVec S16 32) a x).toNat < S256x32.size a)
theorem k0_idx3_inb : ∀ (v4 : IVec S16 32) (v1352 : IVec S16 32) (k0_hw3 : k0_chk3 v4 v1352), ∀ a x, ((![v1352, v4] : Fin 2 → IVec S16 32) a x).toNat < S256x32.size a := fun v4 v1352 k0_hw3 => k0_hw3

def k0_chk4 (v1352 : IVec S16 32) (v1354 : IVec S16 32) : Prop :=
  (∀ a x, ((![v1352, v1354] : Fin 2 → IVec S16 32) a x).toNat < S256x64.size a)
theorem k0_idx4_inb : ∀ (v1352 : IVec S16 32) (v1354 : IVec S16 32) (k0_hw4 : k0_chk4 v1352 v1354), ∀ a x, ((![v1352, v1354] : Fin 2 → IVec S16 32) a x).toNat < S256x64.size a := fun v1352 v1354 k0_hw4 => k0_hw4
def k0_off6 (k0_t2 : Fin k0_t2_loop.trips) : Fin 1 → Nat :=
  let c128_i32_2049 : BitVec 32 := 128#32
  let c0_i32_72 : BitVec 32 := 0#32
  let c1_i32_74 : BitVec 32 := 1#32
  let arg10 : BitVec 32 := Scf.iv c0_i32_72 c1_i32_74 k0_t2
  let c16_i32_2048 : BitVec 32 := 16#32
  let v1358 : BitVec 32 := Scalar.muli arg10 c16_i32_2048
  let v1359 : BitVec 32 := Scalar.addi c128_i32_2049 v1358
  let v1360 : Index := Scalar.indexCast v1359
  ![v1360.toNat]
@[reducible] def k0_t3_loop : Scf.Loop 32 :=
  let c0_i32_104 : BitVec 32 := 0#32
  let c8_i32_105 : BitVec 32 := 8#32
  let v77 : BitVec 32 := Scalar.addi c0_i32_104 c8_i32_105
  let c1_i32_106 : BitVec 32 := 1#32
  ⟨c0_i32_104, v77, c1_i32_106⟩

def k0_chk5 (v4 : IVec S16 32) (v1352 : IVec S16 32) : Prop :=
  (∀ a x, ((![v1352, v4] : Fin 2 → IVec S16 32) a x).toNat < S256x32.size a)
theorem k0_idx5_inb : ∀ (v4 : IVec S16 32) (v1352 : IVec S16 32) (k0_hw5 : k0_chk5 v4 v1352), ∀ a x, ((![v1352, v4] : Fin 2 → IVec S16 32) a x).toNat < S256x32.size a := fun v4 v1352 k0_hw5 => k0_hw5

def k0_chk6 (v1352 : IVec S16 32) (v1354 : IVec S16 32) : Prop :=
  (∀ a x, ((![v1352, v1354] : Fin 2 → IVec S16 32) a x).toNat < S256x64.size a)
theorem k0_idx6_inb : ∀ (v1352 : IVec S16 32) (v1354 : IVec S16 32) (k0_hw6 : k0_chk6 v1352 v1354), ∀ a x, ((![v1352, v1354] : Fin 2 → IVec S16 32) a x).toNat < S256x64.size a := fun v1352 v1354 k0_hw6 => k0_hw6
def k0_off7 (k0_t3 : Fin k0_t3_loop.trips) : Fin 1 → Nat :=
  let c256_i32_2049 : BitVec 32 := 256#32
  let c0_i32_104 : BitVec 32 := 0#32
  let c1_i32_106 : BitVec 32 := 1#32
  let arg10 : BitVec 32 := Scf.iv c0_i32_104 c1_i32_106 k0_t3
  let c16_i32_2048 : BitVec 32 := 16#32
  let v1358 : BitVec 32 := Scalar.muli arg10 c16_i32_2048
  let v1359 : BitVec 32 := Scalar.addi c256_i32_2049 v1358
  let v1360 : Index := Scalar.indexCast v1359
  ![v1360.toNat]
@[reducible] def k0_t4_loop : Scf.Loop 32 :=
  let c0_i32_136 : BitVec 32 := 0#32
  let c8_i32_137 : BitVec 32 := 8#32
  let v98 : BitVec 32 := Scalar.addi c0_i32_136 c8_i32_137
  let c1_i32_138 : BitVec 32 := 1#32
  ⟨c0_i32_136, v98, c1_i32_138⟩

def k0_chk7 (v4 : IVec S16 32) (v1352 : IVec S16 32) : Prop :=
  (∀ a x, ((![v1352, v4] : Fin 2 → IVec S16 32) a x).toNat < S256x32.size a)
theorem k0_idx7_inb : ∀ (v4 : IVec S16 32) (v1352 : IVec S16 32) (k0_hw7 : k0_chk7 v4 v1352), ∀ a x, ((![v1352, v4] : Fin 2 → IVec S16 32) a x).toNat < S256x32.size a := fun v4 v1352 k0_hw7 => k0_hw7

def k0_chk8 (v1352 : IVec S16 32) (v1354 : IVec S16 32) : Prop :=
  (∀ a x, ((![v1352, v1354] : Fin 2 → IVec S16 32) a x).toNat < S256x64.size a)
theorem k0_idx8_inb : ∀ (v1352 : IVec S16 32) (v1354 : IVec S16 32) (k0_hw8 : k0_chk8 v1352 v1354), ∀ a x, ((![v1352, v1354] : Fin 2 → IVec S16 32) a x).toNat < S256x64.size a := fun v1352 v1354 k0_hw8 => k0_hw8
def k0_off8 (k0_t4 : Fin k0_t4_loop.trips) : Fin 1 → Nat :=
  let c384_i32_2049 : BitVec 32 := 384#32
  let c0_i32_136 : BitVec 32 := 0#32
  let c1_i32_138 : BitVec 32 := 1#32
  let arg10 : BitVec 32 := Scf.iv c0_i32_136 c1_i32_138 k0_t4
  let c16_i32_2048 : BitVec 32 := 16#32
  let v1358 : BitVec 32 := Scalar.muli arg10 c16_i32_2048
  let v1359 : BitVec 32 := Scalar.addi c384_i32_2049 v1358
  let v1360 : Index := Scalar.indexCast v1359
  ![v1360.toNat]
@[reducible] def k0_t5_loop : Scf.Loop 32 :=
  let c0_i32_168 : BitVec 32 := 0#32
  let c8_i32_169 : BitVec 32 := 8#32
  let v119 : BitVec 32 := Scalar.addi c0_i32_168 c8_i32_169
  let c1_i32_170 : BitVec 32 := 1#32
  ⟨c0_i32_168, v119, c1_i32_170⟩

def k0_chk9 (v4 : IVec S16 32) (v1352 : IVec S16 32) : Prop :=
  (∀ a x, ((![v1352, v4] : Fin 2 → IVec S16 32) a x).toNat < S256x32.size a)
theorem k0_idx9_inb : ∀ (v4 : IVec S16 32) (v1352 : IVec S16 32) (k0_hw9 : k0_chk9 v4 v1352), ∀ a x, ((![v1352, v4] : Fin 2 → IVec S16 32) a x).toNat < S256x32.size a := fun v4 v1352 k0_hw9 => k0_hw9

def k0_chk10 (v1352 : IVec S16 32) (v1354 : IVec S16 32) : Prop :=
  (∀ a x, ((![v1352, v1354] : Fin 2 → IVec S16 32) a x).toNat < S256x64.size a)
theorem k0_idx10_inb : ∀ (v1352 : IVec S16 32) (v1354 : IVec S16 32) (k0_hw10 : k0_chk10 v1352 v1354), ∀ a x, ((![v1352, v1354] : Fin 2 → IVec S16 32) a x).toNat < S256x64.size a := fun v1352 v1354 k0_hw10 => k0_hw10
def k0_off9 (k0_t5 : Fin k0_t5_loop.trips) : Fin 1 → Nat :=
  let c512_i32_2049 : BitVec 32 := 512#32
  let c0_i32_168 : BitVec 32 := 0#32
  let c1_i32_170 : BitVec 32 := 1#32
  let arg10 : BitVec 32 := Scf.iv c0_i32_168 c1_i32_170 k0_t5
  let c16_i32_2048 : BitVec 32 := 16#32
  let v1358 : BitVec 32 := Scalar.muli arg10 c16_i32_2048
  let v1359 : BitVec 32 := Scalar.addi c512_i32_2049 v1358
  let v1360 : Index := Scalar.indexCast v1359
  ![v1360.toNat]
@[reducible] def k0_t6_loop : Scf.Loop 32 :=
  let c0_i32_200 : BitVec 32 := 0#32
  let c8_i32_201 : BitVec 32 := 8#32
  let v140 : BitVec 32 := Scalar.addi c0_i32_200 c8_i32_201
  let c1_i32_202 : BitVec 32 := 1#32
  ⟨c0_i32_200, v140, c1_i32_202⟩

def k0_chk11 (v4 : IVec S16 32) (v1352 : IVec S16 32) : Prop :=
  (∀ a x, ((![v1352, v4] : Fin 2 → IVec S16 32) a x).toNat < S256x32.size a)
theorem k0_idx11_inb : ∀ (v4 : IVec S16 32) (v1352 : IVec S16 32) (k0_hw11 : k0_chk11 v4 v1352), ∀ a x, ((![v1352, v4] : Fin 2 → IVec S16 32) a x).toNat < S256x32.size a := fun v4 v1352 k0_hw11 => k0_hw11

def k0_chk12 (v1352 : IVec S16 32) (v1354 : IVec S16 32) : Prop :=
  (∀ a x, ((![v1352, v1354] : Fin 2 → IVec S16 32) a x).toNat < S256x64.size a)
theorem k0_idx12_inb : ∀ (v1352 : IVec S16 32) (v1354 : IVec S16 32) (k0_hw12 : k0_chk12 v1352 v1354), ∀ a x, ((![v1352, v1354] : Fin 2 → IVec S16 32) a x).toNat < S256x64.size a := fun v1352 v1354 k0_hw12 => k0_hw12
def k0_off10 (k0_t6 : Fin k0_t6_loop.trips) : Fin 1 → Nat :=
  let c640_i32_2049 : BitVec 32 := 640#32
  let c0_i32_200 : BitVec 32 := 0#32
  let c1_i32_202 : BitVec 32 := 1#32
  let arg10 : BitVec 32 := Scf.iv c0_i32_200 c1_i32_202 k0_t6
  let c16_i32_2048 : BitVec 32 := 16#32
  let v1358 : BitVec 32 := Scalar.muli arg10 c16_i32_2048
  let v1359 : BitVec 32 := Scalar.addi c640_i32_2049 v1358
  let v1360 : Index := Scalar.indexCast v1359
  ![v1360.toNat]
@[reducible] def k0_t7_loop : Scf.Loop 32 :=
  let c0_i32_232 : BitVec 32 := 0#32
  let c8_i32_233 : BitVec 32 := 8#32
  let v161 : BitVec 32 := Scalar.addi c0_i32_232 c8_i32_233
  let c1_i32_234 : BitVec 32 := 1#32
  ⟨c0_i32_232, v161, c1_i32_234⟩

def k0_chk13 (v4 : IVec S16 32) (v1352 : IVec S16 32) : Prop :=
  (∀ a x, ((![v1352, v4] : Fin 2 → IVec S16 32) a x).toNat < S256x32.size a)
theorem k0_idx13_inb : ∀ (v4 : IVec S16 32) (v1352 : IVec S16 32) (k0_hw13 : k0_chk13 v4 v1352), ∀ a x, ((![v1352, v4] : Fin 2 → IVec S16 32) a x).toNat < S256x32.size a := fun v4 v1352 k0_hw13 => k0_hw13

def k0_chk14 (v1352 : IVec S16 32) (v1354 : IVec S16 32) : Prop :=
  (∀ a x, ((![v1352, v1354] : Fin 2 → IVec S16 32) a x).toNat < S256x64.size a)
theorem k0_idx14_inb : ∀ (v1352 : IVec S16 32) (v1354 : IVec S16 32) (k0_hw14 : k0_chk14 v1352 v1354), ∀ a x, ((![v1352, v1354] : Fin 2 → IVec S16 32) a x).toNat < S256x64.size a := fun v1352 v1354 k0_hw14 => k0_hw14
def k0_off11 (k0_t7 : Fin k0_t7_loop.trips) : Fin 1 → Nat :=
  let c768_i32_2049 : BitVec 32 := 768#32
  let c0_i32_232 : BitVec 32 := 0#32
  let c1_i32_234 : BitVec 32 := 1#32
  let arg10 : BitVec 32 := Scf.iv c0_i32_232 c1_i32_234 k0_t7
  let c16_i32_2048 : BitVec 32 := 16#32
  let v1358 : BitVec 32 := Scalar.muli arg10 c16_i32_2048
  let v1359 : BitVec 32 := Scalar.addi c768_i32_2049 v1358
  let v1360 : Index := Scalar.indexCast v1359
  ![v1360.toNat]
@[reducible] def k0_t8_loop : Scf.Loop 32 :=
  let c0_i32_264 : BitVec 32 := 0#32
  let c8_i32_265 : BitVec 32 := 8#32
  let v182 : BitVec 32 := Scalar.addi c0_i32_264 c8_i32_265
  let c1_i32_266 : BitVec 32 := 1#32
  ⟨c0_i32_264, v182, c1_i32_266⟩

def k0_chk15 (v4 : IVec S16 32) (v1352 : IVec S16 32) : Prop :=
  (∀ a x, ((![v1352, v4] : Fin 2 → IVec S16 32) a x).toNat < S256x32.size a)
theorem k0_idx15_inb : ∀ (v4 : IVec S16 32) (v1352 : IVec S16 32) (k0_hw15 : k0_chk15 v4 v1352), ∀ a x, ((![v1352, v4] : Fin 2 → IVec S16 32) a x).toNat < S256x32.size a := fun v4 v1352 k0_hw15 => k0_hw15

def k0_chk16 (v1352 : IVec S16 32) (v1354 : IVec S16 32) : Prop :=
  (∀ a x, ((![v1352, v1354] : Fin 2 → IVec S16 32) a x).toNat < S256x64.size a)
theorem k0_idx16_inb : ∀ (v1352 : IVec S16 32) (v1354 : IVec S16 32) (k0_hw16 : k0_chk16 v1352 v1354), ∀ a x, ((![v1352, v1354] : Fin 2 → IVec S16 32) a x).toNat < S256x64.size a := fun v1352 v1354 k0_hw16 => k0_hw16
def k0_off12 (k0_t8 : Fin k0_t8_loop.trips) : Fin 1 → Nat :=
  let c896_i32_2049 : BitVec 32 := 896#32
  let c0_i32_264 : BitVec 32 := 0#32
  let c1_i32_266 : BitVec 32 := 1#32
  let arg10 : BitVec 32 := Scf.iv c0_i32_264 c1_i32_266 k0_t8
  let c16_i32_2048 : BitVec 32 := 16#32
  let v1358 : BitVec 32 := Scalar.muli arg10 c16_i32_2048
  let v1359 : BitVec 32 := Scalar.addi c896_i32_2049 v1358
  let v1360 : Index := Scalar.indexCast v1359
  ![v1360.toNat]
@[reducible] def k0_t9_loop : Scf.Loop 32 :=
  let c0_i32_296 : BitVec 32 := 0#32
  let c8_i32_297 : BitVec 32 := 8#32
  let v203 : BitVec 32 := Scalar.addi c0_i32_296 c8_i32_297
  let c1_i32_298 : BitVec 32 := 1#32
  ⟨c0_i32_296, v203, c1_i32_298⟩

def k0_chk17 (v4 : IVec S16 32) (v1352 : IVec S16 32) : Prop :=
  (∀ a x, ((![v1352, v4] : Fin 2 → IVec S16 32) a x).toNat < S256x32.size a)
theorem k0_idx17_inb : ∀ (v4 : IVec S16 32) (v1352 : IVec S16 32) (k0_hw17 : k0_chk17 v4 v1352), ∀ a x, ((![v1352, v4] : Fin 2 → IVec S16 32) a x).toNat < S256x32.size a := fun v4 v1352 k0_hw17 => k0_hw17

def k0_chk18 (v1352 : IVec S16 32) (v1354 : IVec S16 32) : Prop :=
  (∀ a x, ((![v1352, v1354] : Fin 2 → IVec S16 32) a x).toNat < S256x64.size a)
theorem k0_idx18_inb : ∀ (v1352 : IVec S16 32) (v1354 : IVec S16 32) (k0_hw18 : k0_chk18 v1352 v1354), ∀ a x, ((![v1352, v1354] : Fin 2 → IVec S16 32) a x).toNat < S256x64.size a := fun v1352 v1354 k0_hw18 => k0_hw18
def k0_off13 (k0_t9 : Fin k0_t9_loop.trips) : Fin 1 → Nat :=
  let c1024_i32_2049 : BitVec 32 := 1024#32
  let c0_i32_296 : BitVec 32 := 0#32
  let c1_i32_298 : BitVec 32 := 1#32
  let arg10 : BitVec 32 := Scf.iv c0_i32_296 c1_i32_298 k0_t9
  let c16_i32_2048 : BitVec 32 := 16#32
  let v1358 : BitVec 32 := Scalar.muli arg10 c16_i32_2048
  let v1359 : BitVec 32 := Scalar.addi c1024_i32_2049 v1358
  let v1360 : Index := Scalar.indexCast v1359
  ![v1360.toNat]
@[reducible] def k0_t10_loop : Scf.Loop 32 :=
  let c0_i32_328 : BitVec 32 := 0#32
  let c8_i32_329 : BitVec 32 := 8#32
  let v224 : BitVec 32 := Scalar.addi c0_i32_328 c8_i32_329
  let c1_i32_330 : BitVec 32 := 1#32
  ⟨c0_i32_328, v224, c1_i32_330⟩

def k0_chk19 (v4 : IVec S16 32) (v1352 : IVec S16 32) : Prop :=
  (∀ a x, ((![v1352, v4] : Fin 2 → IVec S16 32) a x).toNat < S256x32.size a)
theorem k0_idx19_inb : ∀ (v4 : IVec S16 32) (v1352 : IVec S16 32) (k0_hw19 : k0_chk19 v4 v1352), ∀ a x, ((![v1352, v4] : Fin 2 → IVec S16 32) a x).toNat < S256x32.size a := fun v4 v1352 k0_hw19 => k0_hw19

def k0_chk20 (v1352 : IVec S16 32) (v1354 : IVec S16 32) : Prop :=
  (∀ a x, ((![v1352, v1354] : Fin 2 → IVec S16 32) a x).toNat < S256x64.size a)
theorem k0_idx20_inb : ∀ (v1352 : IVec S16 32) (v1354 : IVec S16 32) (k0_hw20 : k0_chk20 v1352 v1354), ∀ a x, ((![v1352, v1354] : Fin 2 → IVec S16 32) a x).toNat < S256x64.size a := fun v1352 v1354 k0_hw20 => k0_hw20
def k0_off14 (k0_t10 : Fin k0_t10_loop.trips) : Fin 1 → Nat :=
  let c1152_i32_2049 : BitVec 32 := 1152#32
  let c0_i32_328 : BitVec 32 := 0#32
  let c1_i32_330 : BitVec 32 := 1#32
  let arg10 : BitVec 32 := Scf.iv c0_i32_328 c1_i32_330 k0_t10
  let c16_i32_2048 : BitVec 32 := 16#32
  let v1358 : BitVec 32 := Scalar.muli arg10 c16_i32_2048
  let v1359 : BitVec 32 := Scalar.addi c1152_i32_2049 v1358
  let v1360 : Index := Scalar.indexCast v1359
  ![v1360.toNat]
@[reducible] def k0_t11_loop : Scf.Loop 32 :=
  let c0_i32_360 : BitVec 32 := 0#32
  let c8_i32_361 : BitVec 32 := 8#32
  let v245 : BitVec 32 := Scalar.addi c0_i32_360 c8_i32_361
  let c1_i32_362 : BitVec 32 := 1#32
  ⟨c0_i32_360, v245, c1_i32_362⟩

def k0_chk21 (v4 : IVec S16 32) (v1352 : IVec S16 32) : Prop :=
  (∀ a x, ((![v1352, v4] : Fin 2 → IVec S16 32) a x).toNat < S256x32.size a)
theorem k0_idx21_inb : ∀ (v4 : IVec S16 32) (v1352 : IVec S16 32) (k0_hw21 : k0_chk21 v4 v1352), ∀ a x, ((![v1352, v4] : Fin 2 → IVec S16 32) a x).toNat < S256x32.size a := fun v4 v1352 k0_hw21 => k0_hw21

def k0_chk22 (v1352 : IVec S16 32) (v1354 : IVec S16 32) : Prop :=
  (∀ a x, ((![v1352, v1354] : Fin 2 → IVec S16 32) a x).toNat < S256x64.size a)
theorem k0_idx22_inb : ∀ (v1352 : IVec S16 32) (v1354 : IVec S16 32) (k0_hw22 : k0_chk22 v1352 v1354), ∀ a x, ((![v1352, v1354] : Fin 2 → IVec S16 32) a x).toNat < S256x64.size a := fun v1352 v1354 k0_hw22 => k0_hw22
def k0_off15 (k0_t11 : Fin k0_t11_loop.trips) : Fin 1 → Nat :=
  let c1280_i32_2049 : BitVec 32 := 1280#32
  let c0_i32_360 : BitVec 32 := 0#32
  let c1_i32_362 : BitVec 32 := 1#32
  let arg10 : BitVec 32 := Scf.iv c0_i32_360 c1_i32_362 k0_t11
  let c16_i32_2048 : BitVec 32 := 16#32
  let v1358 : BitVec 32 := Scalar.muli arg10 c16_i32_2048
  let v1359 : BitVec 32 := Scalar.addi c1280_i32_2049 v1358
  let v1360 : Index := Scalar.indexCast v1359
  ![v1360.toNat]
@[reducible] def k0_t12_loop : Scf.Loop 32 :=
  let c0_i32_392 : BitVec 32 := 0#32
  let c8_i32_393 : BitVec 32 := 8#32
  let v266 : BitVec 32 := Scalar.addi c0_i32_392 c8_i32_393
  let c1_i32_394 : BitVec 32 := 1#32
  ⟨c0_i32_392, v266, c1_i32_394⟩

def k0_chk23 (v4 : IVec S16 32) (v1352 : IVec S16 32) : Prop :=
  (∀ a x, ((![v1352, v4] : Fin 2 → IVec S16 32) a x).toNat < S256x32.size a)
theorem k0_idx23_inb : ∀ (v4 : IVec S16 32) (v1352 : IVec S16 32) (k0_hw23 : k0_chk23 v4 v1352), ∀ a x, ((![v1352, v4] : Fin 2 → IVec S16 32) a x).toNat < S256x32.size a := fun v4 v1352 k0_hw23 => k0_hw23

def k0_chk24 (v1352 : IVec S16 32) (v1354 : IVec S16 32) : Prop :=
  (∀ a x, ((![v1352, v1354] : Fin 2 → IVec S16 32) a x).toNat < S256x64.size a)
theorem k0_idx24_inb : ∀ (v1352 : IVec S16 32) (v1354 : IVec S16 32) (k0_hw24 : k0_chk24 v1352 v1354), ∀ a x, ((![v1352, v1354] : Fin 2 → IVec S16 32) a x).toNat < S256x64.size a := fun v1352 v1354 k0_hw24 => k0_hw24
def k0_off16 (k0_t12 : Fin k0_t12_loop.trips) : Fin 1 → Nat :=
  let c1408_i32_2049 : BitVec 32 := 1408#32
  let c0_i32_392 : BitVec 32 := 0#32
  let c1_i32_394 : BitVec 32 := 1#32
  let arg10 : BitVec 32 := Scf.iv c0_i32_392 c1_i32_394 k0_t12
  let c16_i32_2048 : BitVec 32 := 16#32
  let v1358 : BitVec 32 := Scalar.muli arg10 c16_i32_2048
  let v1359 : BitVec 32 := Scalar.addi c1408_i32_2049 v1358
  let v1360 : Index := Scalar.indexCast v1359
  ![v1360.toNat]
@[reducible] def k0_t13_loop : Scf.Loop 32 :=
  let c0_i32_424 : BitVec 32 := 0#32
  let c8_i32_425 : BitVec 32 := 8#32
  let v287 : BitVec 32 := Scalar.addi c0_i32_424 c8_i32_425
  let c1_i32_426 : BitVec 32 := 1#32
  ⟨c0_i32_424, v287, c1_i32_426⟩

def k0_chk25 (v4 : IVec S16 32) (v1352 : IVec S16 32) : Prop :=
  (∀ a x, ((![v1352, v4] : Fin 2 → IVec S16 32) a x).toNat < S256x32.size a)
theorem k0_idx25_inb : ∀ (v4 : IVec S16 32) (v1352 : IVec S16 32) (k0_hw25 : k0_chk25 v4 v1352), ∀ a x, ((![v1352, v4] : Fin 2 → IVec S16 32) a x).toNat < S256x32.size a := fun v4 v1352 k0_hw25 => k0_hw25

def k0_chk26 (v1352 : IVec S16 32) (v1354 : IVec S16 32) : Prop :=
  (∀ a x, ((![v1352, v1354] : Fin 2 → IVec S16 32) a x).toNat < S256x64.size a)
theorem k0_idx26_inb : ∀ (v1352 : IVec S16 32) (v1354 : IVec S16 32) (k0_hw26 : k0_chk26 v1352 v1354), ∀ a x, ((![v1352, v1354] : Fin 2 → IVec S16 32) a x).toNat < S256x64.size a := fun v1352 v1354 k0_hw26 => k0_hw26
def k0_off17 (k0_t13 : Fin k0_t13_loop.trips) : Fin 1 → Nat :=
  let c1536_i32_2049 : BitVec 32 := 1536#32
  let c0_i32_424 : BitVec 32 := 0#32
  let c1_i32_426 : BitVec 32 := 1#32
  let arg10 : BitVec 32 := Scf.iv c0_i32_424 c1_i32_426 k0_t13
  let c16_i32_2048 : BitVec 32 := 16#32
  let v1358 : BitVec 32 := Scalar.muli arg10 c16_i32_2048
  let v1359 : BitVec 32 := Scalar.addi c1536_i32_2049 v1358
  let v1360 : Index := Scalar.indexCast v1359
  ![v1360.toNat]
@[reducible] def k0_t14_loop : Scf.Loop 32 :=
  let c0_i32_456 : BitVec 32 := 0#32
  let c8_i32_457 : BitVec 32 := 8#32
  let v308 : BitVec 32 := Scalar.addi c0_i32_456 c8_i32_457
  let c1_i32_458 : BitVec 32 := 1#32
  ⟨c0_i32_456, v308, c1_i32_458⟩

def k0_chk27 (v4 : IVec S16 32) (v1352 : IVec S16 32) : Prop :=
  (∀ a x, ((![v1352, v4] : Fin 2 → IVec S16 32) a x).toNat < S256x32.size a)
theorem k0_idx27_inb : ∀ (v4 : IVec S16 32) (v1352 : IVec S16 32) (k0_hw27 : k0_chk27 v4 v1352), ∀ a x, ((![v1352, v4] : Fin 2 → IVec S16 32) a x).toNat < S256x32.size a := fun v4 v1352 k0_hw27 => k0_hw27

def k0_chk28 (v1352 : IVec S16 32) (v1354 : IVec S16 32) : Prop :=
  (∀ a x, ((![v1352, v1354] : Fin 2 → IVec S16 32) a x).toNat < S256x64.size a)
theorem k0_idx28_inb : ∀ (v1352 : IVec S16 32) (v1354 : IVec S16 32) (k0_hw28 : k0_chk28 v1352 v1354), ∀ a x, ((![v1352, v1354] : Fin 2 → IVec S16 32) a x).toNat < S256x64.size a := fun v1352 v1354 k0_hw28 => k0_hw28
def k0_off18 (k0_t14 : Fin k0_t14_loop.trips) : Fin 1 → Nat :=
  let c1664_i32_2049 : BitVec 32 := 1664#32
  let c0_i32_456 : BitVec 32 := 0#32
  let c1_i32_458 : BitVec 32 := 1#32
  let arg10 : BitVec 32 := Scf.iv c0_i32_456 c1_i32_458 k0_t14
  let c16_i32_2048 : BitVec 32 := 16#32
  let v1358 : BitVec 32 := Scalar.muli arg10 c16_i32_2048
  let v1359 : BitVec 32 := Scalar.addi c1664_i32_2049 v1358
  let v1360 : Index := Scalar.indexCast v1359
  ![v1360.toNat]
@[reducible] def k0_t15_loop : Scf.Loop 32 :=
  let c0_i32_488 : BitVec 32 := 0#32
  let c8_i32_489 : BitVec 32 := 8#32
  let v329 : BitVec 32 := Scalar.addi c0_i32_488 c8_i32_489
  let c1_i32_490 : BitVec 32 := 1#32
  ⟨c0_i32_488, v329, c1_i32_490⟩

def k0_chk29 (v4 : IVec S16 32) (v1352 : IVec S16 32) : Prop :=
  (∀ a x, ((![v1352, v4] : Fin 2 → IVec S16 32) a x).toNat < S256x32.size a)
theorem k0_idx29_inb : ∀ (v4 : IVec S16 32) (v1352 : IVec S16 32) (k0_hw29 : k0_chk29 v4 v1352), ∀ a x, ((![v1352, v4] : Fin 2 → IVec S16 32) a x).toNat < S256x32.size a := fun v4 v1352 k0_hw29 => k0_hw29

def k0_chk30 (v1352 : IVec S16 32) (v1354 : IVec S16 32) : Prop :=
  (∀ a x, ((![v1352, v1354] : Fin 2 → IVec S16 32) a x).toNat < S256x64.size a)
theorem k0_idx30_inb : ∀ (v1352 : IVec S16 32) (v1354 : IVec S16 32) (k0_hw30 : k0_chk30 v1352 v1354), ∀ a x, ((![v1352, v1354] : Fin 2 → IVec S16 32) a x).toNat < S256x64.size a := fun v1352 v1354 k0_hw30 => k0_hw30
def k0_off19 (k0_t15 : Fin k0_t15_loop.trips) : Fin 1 → Nat :=
  let c1792_i32_2049 : BitVec 32 := 1792#32
  let c0_i32_488 : BitVec 32 := 0#32
  let c1_i32_490 : BitVec 32 := 1#32
  let arg10 : BitVec 32 := Scf.iv c0_i32_488 c1_i32_490 k0_t15
  let c16_i32_2048 : BitVec 32 := 16#32
  let v1358 : BitVec 32 := Scalar.muli arg10 c16_i32_2048
  let v1359 : BitVec 32 := Scalar.addi c1792_i32_2049 v1358
  let v1360 : Index := Scalar.indexCast v1359
  ![v1360.toNat]
@[reducible] def k0_t16_loop : Scf.Loop 32 :=
  let c0_i32_520 : BitVec 32 := 0#32
  let c8_i32_521 : BitVec 32 := 8#32
  let v350 : BitVec 32 := Scalar.addi c0_i32_520 c8_i32_521
  let c1_i32_522 : BitVec 32 := 1#32
  ⟨c0_i32_520, v350, c1_i32_522⟩

def k0_chk31 (v4 : IVec S16 32) (v1352 : IVec S16 32) : Prop :=
  (∀ a x, ((![v1352, v4] : Fin 2 → IVec S16 32) a x).toNat < S256x32.size a)
theorem k0_idx31_inb : ∀ (v4 : IVec S16 32) (v1352 : IVec S16 32) (k0_hw31 : k0_chk31 v4 v1352), ∀ a x, ((![v1352, v4] : Fin 2 → IVec S16 32) a x).toNat < S256x32.size a := fun v4 v1352 k0_hw31 => k0_hw31

def k0_chk32 (v1352 : IVec S16 32) (v1354 : IVec S16 32) : Prop :=
  (∀ a x, ((![v1352, v1354] : Fin 2 → IVec S16 32) a x).toNat < S256x64.size a)
theorem k0_idx32_inb : ∀ (v1352 : IVec S16 32) (v1354 : IVec S16 32) (k0_hw32 : k0_chk32 v1352 v1354), ∀ a x, ((![v1352, v1354] : Fin 2 → IVec S16 32) a x).toNat < S256x64.size a := fun v1352 v1354 k0_hw32 => k0_hw32
def k0_off20 (k0_t16 : Fin k0_t16_loop.trips) : Fin 1 → Nat :=
  let c1920_i32_2049 : BitVec 32 := 1920#32
  let c0_i32_520 : BitVec 32 := 0#32
  let c1_i32_522 : BitVec 32 := 1#32
  let arg10 : BitVec 32 := Scf.iv c0_i32_520 c1_i32_522 k0_t16
  let c16_i32_2048 : BitVec 32 := 16#32
  let v1358 : BitVec 32 := Scalar.muli arg10 c16_i32_2048
  let v1359 : BitVec 32 := Scalar.addi c1920_i32_2049 v1358
  let v1360 : Index := Scalar.indexCast v1359
  ![v1360.toNat]
@[reducible] def k0_t17_loop : Scf.Loop 32 :=
  let c0_i32_552 : BitVec 32 := 0#32
  let c8_i32_553 : BitVec 32 := 8#32
  let v371 : BitVec 32 := Scalar.addi c0_i32_552 c8_i32_553
  let c1_i32_554 : BitVec 32 := 1#32
  ⟨c0_i32_552, v371, c1_i32_554⟩

def k0_chk33 (v4 : IVec S16 32) (v1352 : IVec S16 32) : Prop :=
  (∀ a x, ((![v1352, v4] : Fin 2 → IVec S16 32) a x).toNat < S256x32.size a)
theorem k0_idx33_inb : ∀ (v4 : IVec S16 32) (v1352 : IVec S16 32) (k0_hw33 : k0_chk33 v4 v1352), ∀ a x, ((![v1352, v4] : Fin 2 → IVec S16 32) a x).toNat < S256x32.size a := fun v4 v1352 k0_hw33 => k0_hw33

def k0_chk34 (v1352 : IVec S16 32) (v1354 : IVec S16 32) : Prop :=
  (∀ a x, ((![v1352, v1354] : Fin 2 → IVec S16 32) a x).toNat < S256x64.size a)
theorem k0_idx34_inb : ∀ (v1352 : IVec S16 32) (v1354 : IVec S16 32) (k0_hw34 : k0_chk34 v1352 v1354), ∀ a x, ((![v1352, v1354] : Fin 2 → IVec S16 32) a x).toNat < S256x64.size a := fun v1352 v1354 k0_hw34 => k0_hw34
def k0_off21 (k0_t17 : Fin k0_t17_loop.trips) : Fin 1 → Nat :=
  let c2048_i32_2049 : BitVec 32 := 2048#32
  let c0_i32_552 : BitVec 32 := 0#32
  let c1_i32_554 : BitVec 32 := 1#32
  let arg10 : BitVec 32 := Scf.iv c0_i32_552 c1_i32_554 k0_t17
  let c16_i32_2048 : BitVec 32 := 16#32
  let v1358 : BitVec 32 := Scalar.muli arg10 c16_i32_2048
  let v1359 : BitVec 32 := Scalar.addi c2048_i32_2049 v1358
  let v1360 : Index := Scalar.indexCast v1359
  ![v1360.toNat]
@[reducible] def k0_t18_loop : Scf.Loop 32 :=
  let c0_i32_584 : BitVec 32 := 0#32
  let c8_i32_585 : BitVec 32 := 8#32
  let v392 : BitVec 32 := Scalar.addi c0_i32_584 c8_i32_585
  let c1_i32_586 : BitVec 32 := 1#32
  ⟨c0_i32_584, v392, c1_i32_586⟩

def k0_chk35 (v4 : IVec S16 32) (v1352 : IVec S16 32) : Prop :=
  (∀ a x, ((![v1352, v4] : Fin 2 → IVec S16 32) a x).toNat < S256x32.size a)
theorem k0_idx35_inb : ∀ (v4 : IVec S16 32) (v1352 : IVec S16 32) (k0_hw35 : k0_chk35 v4 v1352), ∀ a x, ((![v1352, v4] : Fin 2 → IVec S16 32) a x).toNat < S256x32.size a := fun v4 v1352 k0_hw35 => k0_hw35

def k0_chk36 (v1352 : IVec S16 32) (v1354 : IVec S16 32) : Prop :=
  (∀ a x, ((![v1352, v1354] : Fin 2 → IVec S16 32) a x).toNat < S256x64.size a)
theorem k0_idx36_inb : ∀ (v1352 : IVec S16 32) (v1354 : IVec S16 32) (k0_hw36 : k0_chk36 v1352 v1354), ∀ a x, ((![v1352, v1354] : Fin 2 → IVec S16 32) a x).toNat < S256x64.size a := fun v1352 v1354 k0_hw36 => k0_hw36
def k0_off22 (k0_t18 : Fin k0_t18_loop.trips) : Fin 1 → Nat :=
  let c2176_i32_2049 : BitVec 32 := 2176#32
  let c0_i32_584 : BitVec 32 := 0#32
  let c1_i32_586 : BitVec 32 := 1#32
  let arg10 : BitVec 32 := Scf.iv c0_i32_584 c1_i32_586 k0_t18
  let c16_i32_2048 : BitVec 32 := 16#32
  let v1358 : BitVec 32 := Scalar.muli arg10 c16_i32_2048
  let v1359 : BitVec 32 := Scalar.addi c2176_i32_2049 v1358
  let v1360 : Index := Scalar.indexCast v1359
  ![v1360.toNat]
@[reducible] def k0_t19_loop : Scf.Loop 32 :=
  let c0_i32_616 : BitVec 32 := 0#32
  let c8_i32_617 : BitVec 32 := 8#32
  let v413 : BitVec 32 := Scalar.addi c0_i32_616 c8_i32_617
  let c1_i32_618 : BitVec 32 := 1#32
  ⟨c0_i32_616, v413, c1_i32_618⟩

def k0_chk37 (v4 : IVec S16 32) (v1352 : IVec S16 32) : Prop :=
  (∀ a x, ((![v1352, v4] : Fin 2 → IVec S16 32) a x).toNat < S256x32.size a)
theorem k0_idx37_inb : ∀ (v4 : IVec S16 32) (v1352 : IVec S16 32) (k0_hw37 : k0_chk37 v4 v1352), ∀ a x, ((![v1352, v4] : Fin 2 → IVec S16 32) a x).toNat < S256x32.size a := fun v4 v1352 k0_hw37 => k0_hw37

def k0_chk38 (v1352 : IVec S16 32) (v1354 : IVec S16 32) : Prop :=
  (∀ a x, ((![v1352, v1354] : Fin 2 → IVec S16 32) a x).toNat < S256x64.size a)
theorem k0_idx38_inb : ∀ (v1352 : IVec S16 32) (v1354 : IVec S16 32) (k0_hw38 : k0_chk38 v1352 v1354), ∀ a x, ((![v1352, v1354] : Fin 2 → IVec S16 32) a x).toNat < S256x64.size a := fun v1352 v1354 k0_hw38 => k0_hw38
def k0_off23 (k0_t19 : Fin k0_t19_loop.trips) : Fin 1 → Nat :=
  let c2304_i32_2049 : BitVec 32 := 2304#32
  let c0_i32_616 : BitVec 32 := 0#32
  let c1_i32_618 : BitVec 32 := 1#32
  let arg10 : BitVec 32 := Scf.iv c0_i32_616 c1_i32_618 k0_t19
  let c16_i32_2048 : BitVec 32 := 16#32
  let v1358 : BitVec 32 := Scalar.muli arg10 c16_i32_2048
  let v1359 : BitVec 32 := Scalar.addi c2304_i32_2049 v1358
  let v1360 : Index := Scalar.indexCast v1359
  ![v1360.toNat]
@[reducible] def k0_t20_loop : Scf.Loop 32 :=
  let c0_i32_648 : BitVec 32 := 0#32
  let c8_i32_649 : BitVec 32 := 8#32
  let v434 : BitVec 32 := Scalar.addi c0_i32_648 c8_i32_649
  let c1_i32_650 : BitVec 32 := 1#32
  ⟨c0_i32_648, v434, c1_i32_650⟩

def k0_chk39 (v4 : IVec S16 32) (v1352 : IVec S16 32) : Prop :=
  (∀ a x, ((![v1352, v4] : Fin 2 → IVec S16 32) a x).toNat < S256x32.size a)
theorem k0_idx39_inb : ∀ (v4 : IVec S16 32) (v1352 : IVec S16 32) (k0_hw39 : k0_chk39 v4 v1352), ∀ a x, ((![v1352, v4] : Fin 2 → IVec S16 32) a x).toNat < S256x32.size a := fun v4 v1352 k0_hw39 => k0_hw39

def k0_chk40 (v1352 : IVec S16 32) (v1354 : IVec S16 32) : Prop :=
  (∀ a x, ((![v1352, v1354] : Fin 2 → IVec S16 32) a x).toNat < S256x64.size a)
theorem k0_idx40_inb : ∀ (v1352 : IVec S16 32) (v1354 : IVec S16 32) (k0_hw40 : k0_chk40 v1352 v1354), ∀ a x, ((![v1352, v1354] : Fin 2 → IVec S16 32) a x).toNat < S256x64.size a := fun v1352 v1354 k0_hw40 => k0_hw40
def k0_off24 (k0_t20 : Fin k0_t20_loop.trips) : Fin 1 → Nat :=
  let c2432_i32_2049 : BitVec 32 := 2432#32
  let c0_i32_648 : BitVec 32 := 0#32
  let c1_i32_650 : BitVec 32 := 1#32
  let arg10 : BitVec 32 := Scf.iv c0_i32_648 c1_i32_650 k0_t20
  let c16_i32_2048 : BitVec 32 := 16#32
  let v1358 : BitVec 32 := Scalar.muli arg10 c16_i32_2048
  let v1359 : BitVec 32 := Scalar.addi c2432_i32_2049 v1358
  let v1360 : Index := Scalar.indexCast v1359
  ![v1360.toNat]
@[reducible] def k0_t21_loop : Scf.Loop 32 :=
  let c0_i32_680 : BitVec 32 := 0#32
  let c8_i32_681 : BitVec 32 := 8#32
  let v455 : BitVec 32 := Scalar.addi c0_i32_680 c8_i32_681
  let c1_i32_682 : BitVec 32 := 1#32
  ⟨c0_i32_680, v455, c1_i32_682⟩

def k0_chk41 (v4 : IVec S16 32) (v1352 : IVec S16 32) : Prop :=
  (∀ a x, ((![v1352, v4] : Fin 2 → IVec S16 32) a x).toNat < S256x32.size a)
theorem k0_idx41_inb : ∀ (v4 : IVec S16 32) (v1352 : IVec S16 32) (k0_hw41 : k0_chk41 v4 v1352), ∀ a x, ((![v1352, v4] : Fin 2 → IVec S16 32) a x).toNat < S256x32.size a := fun v4 v1352 k0_hw41 => k0_hw41

def k0_chk42 (v1352 : IVec S16 32) (v1354 : IVec S16 32) : Prop :=
  (∀ a x, ((![v1352, v1354] : Fin 2 → IVec S16 32) a x).toNat < S256x64.size a)
theorem k0_idx42_inb : ∀ (v1352 : IVec S16 32) (v1354 : IVec S16 32) (k0_hw42 : k0_chk42 v1352 v1354), ∀ a x, ((![v1352, v1354] : Fin 2 → IVec S16 32) a x).toNat < S256x64.size a := fun v1352 v1354 k0_hw42 => k0_hw42
def k0_off25 (k0_t21 : Fin k0_t21_loop.trips) : Fin 1 → Nat :=
  let c2560_i32_2049 : BitVec 32 := 2560#32
  let c0_i32_680 : BitVec 32 := 0#32
  let c1_i32_682 : BitVec 32 := 1#32
  let arg10 : BitVec 32 := Scf.iv c0_i32_680 c1_i32_682 k0_t21
  let c16_i32_2048 : BitVec 32 := 16#32
  let v1358 : BitVec 32 := Scalar.muli arg10 c16_i32_2048
  let v1359 : BitVec 32 := Scalar.addi c2560_i32_2049 v1358
  let v1360 : Index := Scalar.indexCast v1359
  ![v1360.toNat]
@[reducible] def k0_t22_loop : Scf.Loop 32 :=
  let c0_i32_712 : BitVec 32 := 0#32
  let c8_i32_713 : BitVec 32 := 8#32
  let v476 : BitVec 32 := Scalar.addi c0_i32_712 c8_i32_713
  let c1_i32_714 : BitVec 32 := 1#32
  ⟨c0_i32_712, v476, c1_i32_714⟩

def k0_chk43 (v4 : IVec S16 32) (v1352 : IVec S16 32) : Prop :=
  (∀ a x, ((![v1352, v4] : Fin 2 → IVec S16 32) a x).toNat < S256x32.size a)
theorem k0_idx43_inb : ∀ (v4 : IVec S16 32) (v1352 : IVec S16 32) (k0_hw43 : k0_chk43 v4 v1352), ∀ a x, ((![v1352, v4] : Fin 2 → IVec S16 32) a x).toNat < S256x32.size a := fun v4 v1352 k0_hw43 => k0_hw43

def k0_chk44 (v1352 : IVec S16 32) (v1354 : IVec S16 32) : Prop :=
  (∀ a x, ((![v1352, v1354] : Fin 2 → IVec S16 32) a x).toNat < S256x64.size a)
theorem k0_idx44_inb : ∀ (v1352 : IVec S16 32) (v1354 : IVec S16 32) (k0_hw44 : k0_chk44 v1352 v1354), ∀ a x, ((![v1352, v1354] : Fin 2 → IVec S16 32) a x).toNat < S256x64.size a := fun v1352 v1354 k0_hw44 => k0_hw44
def k0_off26 (k0_t22 : Fin k0_t22_loop.trips) : Fin 1 → Nat :=
  let c2688_i32_2049 : BitVec 32 := 2688#32
  let c0_i32_712 : BitVec 32 := 0#32
  let c1_i32_714 : BitVec 32 := 1#32
  let arg10 : BitVec 32 := Scf.iv c0_i32_712 c1_i32_714 k0_t22
  let c16_i32_2048 : BitVec 32 := 16#32
  let v1358 : BitVec 32 := Scalar.muli arg10 c16_i32_2048
  let v1359 : BitVec 32 := Scalar.addi c2688_i32_2049 v1358
  let v1360 : Index := Scalar.indexCast v1359
  ![v1360.toNat]
@[reducible] def k0_t23_loop : Scf.Loop 32 :=
  let c0_i32_744 : BitVec 32 := 0#32
  let c8_i32_745 : BitVec 32 := 8#32
  let v497 : BitVec 32 := Scalar.addi c0_i32_744 c8_i32_745
  let c1_i32_746 : BitVec 32 := 1#32
  ⟨c0_i32_744, v497, c1_i32_746⟩

def k0_chk45 (v4 : IVec S16 32) (v1352 : IVec S16 32) : Prop :=
  (∀ a x, ((![v1352, v4] : Fin 2 → IVec S16 32) a x).toNat < S256x32.size a)
theorem k0_idx45_inb : ∀ (v4 : IVec S16 32) (v1352 : IVec S16 32) (k0_hw45 : k0_chk45 v4 v1352), ∀ a x, ((![v1352, v4] : Fin 2 → IVec S16 32) a x).toNat < S256x32.size a := fun v4 v1352 k0_hw45 => k0_hw45

def k0_chk46 (v1352 : IVec S16 32) (v1354 : IVec S16 32) : Prop :=
  (∀ a x, ((![v1352, v1354] : Fin 2 → IVec S16 32) a x).toNat < S256x64.size a)
theorem k0_idx46_inb : ∀ (v1352 : IVec S16 32) (v1354 : IVec S16 32) (k0_hw46 : k0_chk46 v1352 v1354), ∀ a x, ((![v1352, v1354] : Fin 2 → IVec S16 32) a x).toNat < S256x64.size a := fun v1352 v1354 k0_hw46 => k0_hw46
def k0_off27 (k0_t23 : Fin k0_t23_loop.trips) : Fin 1 → Nat :=
  let c2816_i32_2049 : BitVec 32 := 2816#32
  let c0_i32_744 : BitVec 32 := 0#32
  let c1_i32_746 : BitVec 32 := 1#32
  let arg10 : BitVec 32 := Scf.iv c0_i32_744 c1_i32_746 k0_t23
  let c16_i32_2048 : BitVec 32 := 16#32
  let v1358 : BitVec 32 := Scalar.muli arg10 c16_i32_2048
  let v1359 : BitVec 32 := Scalar.addi c2816_i32_2049 v1358
  let v1360 : Index := Scalar.indexCast v1359
  ![v1360.toNat]
@[reducible] def k0_t24_loop : Scf.Loop 32 :=
  let c0_i32_776 : BitVec 32 := 0#32
  let c8_i32_777 : BitVec 32 := 8#32
  let v518 : BitVec 32 := Scalar.addi c0_i32_776 c8_i32_777
  let c1_i32_778 : BitVec 32 := 1#32
  ⟨c0_i32_776, v518, c1_i32_778⟩

def k0_chk47 (v4 : IVec S16 32) (v1352 : IVec S16 32) : Prop :=
  (∀ a x, ((![v1352, v4] : Fin 2 → IVec S16 32) a x).toNat < S256x32.size a)
theorem k0_idx47_inb : ∀ (v4 : IVec S16 32) (v1352 : IVec S16 32) (k0_hw47 : k0_chk47 v4 v1352), ∀ a x, ((![v1352, v4] : Fin 2 → IVec S16 32) a x).toNat < S256x32.size a := fun v4 v1352 k0_hw47 => k0_hw47

def k0_chk48 (v1352 : IVec S16 32) (v1354 : IVec S16 32) : Prop :=
  (∀ a x, ((![v1352, v1354] : Fin 2 → IVec S16 32) a x).toNat < S256x64.size a)
theorem k0_idx48_inb : ∀ (v1352 : IVec S16 32) (v1354 : IVec S16 32) (k0_hw48 : k0_chk48 v1352 v1354), ∀ a x, ((![v1352, v1354] : Fin 2 → IVec S16 32) a x).toNat < S256x64.size a := fun v1352 v1354 k0_hw48 => k0_hw48
def k0_off28 (k0_t24 : Fin k0_t24_loop.trips) : Fin 1 → Nat :=
  let c2944_i32_2049 : BitVec 32 := 2944#32
  let c0_i32_776 : BitVec 32 := 0#32
  let c1_i32_778 : BitVec 32 := 1#32
  let arg10 : BitVec 32 := Scf.iv c0_i32_776 c1_i32_778 k0_t24
  let c16_i32_2048 : BitVec 32 := 16#32
  let v1358 : BitVec 32 := Scalar.muli arg10 c16_i32_2048
  let v1359 : BitVec 32 := Scalar.addi c2944_i32_2049 v1358
  let v1360 : Index := Scalar.indexCast v1359
  ![v1360.toNat]
@[reducible] def k0_t25_loop : Scf.Loop 32 :=
  let c0_i32_808 : BitVec 32 := 0#32
  let c8_i32_809 : BitVec 32 := 8#32
  let v539 : BitVec 32 := Scalar.addi c0_i32_808 c8_i32_809
  let c1_i32_810 : BitVec 32 := 1#32
  ⟨c0_i32_808, v539, c1_i32_810⟩

def k0_chk49 (v4 : IVec S16 32) (v1352 : IVec S16 32) : Prop :=
  (∀ a x, ((![v1352, v4] : Fin 2 → IVec S16 32) a x).toNat < S256x32.size a)
theorem k0_idx49_inb : ∀ (v4 : IVec S16 32) (v1352 : IVec S16 32) (k0_hw49 : k0_chk49 v4 v1352), ∀ a x, ((![v1352, v4] : Fin 2 → IVec S16 32) a x).toNat < S256x32.size a := fun v4 v1352 k0_hw49 => k0_hw49

def k0_chk50 (v1352 : IVec S16 32) (v1354 : IVec S16 32) : Prop :=
  (∀ a x, ((![v1352, v1354] : Fin 2 → IVec S16 32) a x).toNat < S256x64.size a)
theorem k0_idx50_inb : ∀ (v1352 : IVec S16 32) (v1354 : IVec S16 32) (k0_hw50 : k0_chk50 v1352 v1354), ∀ a x, ((![v1352, v1354] : Fin 2 → IVec S16 32) a x).toNat < S256x64.size a := fun v1352 v1354 k0_hw50 => k0_hw50
def k0_off29 (k0_t25 : Fin k0_t25_loop.trips) : Fin 1 → Nat :=
  let c3072_i32_2049 : BitVec 32 := 3072#32
  let c0_i32_808 : BitVec 32 := 0#32
  let c1_i32_810 : BitVec 32 := 1#32
  let arg10 : BitVec 32 := Scf.iv c0_i32_808 c1_i32_810 k0_t25
  let c16_i32_2048 : BitVec 32 := 16#32
  let v1358 : BitVec 32 := Scalar.muli arg10 c16_i32_2048
  let v1359 : BitVec 32 := Scalar.addi c3072_i32_2049 v1358
  let v1360 : Index := Scalar.indexCast v1359
  ![v1360.toNat]
@[reducible] def k0_t26_loop : Scf.Loop 32 :=
  let c0_i32_840 : BitVec 32 := 0#32
  let c8_i32_841 : BitVec 32 := 8#32
  let v560 : BitVec 32 := Scalar.addi c0_i32_840 c8_i32_841
  let c1_i32_842 : BitVec 32 := 1#32
  ⟨c0_i32_840, v560, c1_i32_842⟩

def k0_chk51 (v4 : IVec S16 32) (v1352 : IVec S16 32) : Prop :=
  (∀ a x, ((![v1352, v4] : Fin 2 → IVec S16 32) a x).toNat < S256x32.size a)
theorem k0_idx51_inb : ∀ (v4 : IVec S16 32) (v1352 : IVec S16 32) (k0_hw51 : k0_chk51 v4 v1352), ∀ a x, ((![v1352, v4] : Fin 2 → IVec S16 32) a x).toNat < S256x32.size a := fun v4 v1352 k0_hw51 => k0_hw51

def k0_chk52 (v1352 : IVec S16 32) (v1354 : IVec S16 32) : Prop :=
  (∀ a x, ((![v1352, v1354] : Fin 2 → IVec S16 32) a x).toNat < S256x64.size a)
theorem k0_idx52_inb : ∀ (v1352 : IVec S16 32) (v1354 : IVec S16 32) (k0_hw52 : k0_chk52 v1352 v1354), ∀ a x, ((![v1352, v1354] : Fin 2 → IVec S16 32) a x).toNat < S256x64.size a := fun v1352 v1354 k0_hw52 => k0_hw52
def k0_off30 (k0_t26 : Fin k0_t26_loop.trips) : Fin 1 → Nat :=
  let c3200_i32_2049 : BitVec 32 := 3200#32
  let c0_i32_840 : BitVec 32 := 0#32
  let c1_i32_842 : BitVec 32 := 1#32
  let arg10 : BitVec 32 := Scf.iv c0_i32_840 c1_i32_842 k0_t26
  let c16_i32_2048 : BitVec 32 := 16#32
  let v1358 : BitVec 32 := Scalar.muli arg10 c16_i32_2048
  let v1359 : BitVec 32 := Scalar.addi c3200_i32_2049 v1358
  let v1360 : Index := Scalar.indexCast v1359
  ![v1360.toNat]
@[reducible] def k0_t27_loop : Scf.Loop 32 :=
  let c0_i32_872 : BitVec 32 := 0#32
  let c8_i32_873 : BitVec 32 := 8#32
  let v581 : BitVec 32 := Scalar.addi c0_i32_872 c8_i32_873
  let c1_i32_874 : BitVec 32 := 1#32
  ⟨c0_i32_872, v581, c1_i32_874⟩

def k0_chk53 (v4 : IVec S16 32) (v1352 : IVec S16 32) : Prop :=
  (∀ a x, ((![v1352, v4] : Fin 2 → IVec S16 32) a x).toNat < S256x32.size a)
theorem k0_idx53_inb : ∀ (v4 : IVec S16 32) (v1352 : IVec S16 32) (k0_hw53 : k0_chk53 v4 v1352), ∀ a x, ((![v1352, v4] : Fin 2 → IVec S16 32) a x).toNat < S256x32.size a := fun v4 v1352 k0_hw53 => k0_hw53

def k0_chk54 (v1352 : IVec S16 32) (v1354 : IVec S16 32) : Prop :=
  (∀ a x, ((![v1352, v1354] : Fin 2 → IVec S16 32) a x).toNat < S256x64.size a)
theorem k0_idx54_inb : ∀ (v1352 : IVec S16 32) (v1354 : IVec S16 32) (k0_hw54 : k0_chk54 v1352 v1354), ∀ a x, ((![v1352, v1354] : Fin 2 → IVec S16 32) a x).toNat < S256x64.size a := fun v1352 v1354 k0_hw54 => k0_hw54
def k0_off31 (k0_t27 : Fin k0_t27_loop.trips) : Fin 1 → Nat :=
  let c3328_i32_2049 : BitVec 32 := 3328#32
  let c0_i32_872 : BitVec 32 := 0#32
  let c1_i32_874 : BitVec 32 := 1#32
  let arg10 : BitVec 32 := Scf.iv c0_i32_872 c1_i32_874 k0_t27
  let c16_i32_2048 : BitVec 32 := 16#32
  let v1358 : BitVec 32 := Scalar.muli arg10 c16_i32_2048
  let v1359 : BitVec 32 := Scalar.addi c3328_i32_2049 v1358
  let v1360 : Index := Scalar.indexCast v1359
  ![v1360.toNat]
@[reducible] def k0_t28_loop : Scf.Loop 32 :=
  let c0_i32_904 : BitVec 32 := 0#32
  let c8_i32_905 : BitVec 32 := 8#32
  let v602 : BitVec 32 := Scalar.addi c0_i32_904 c8_i32_905
  let c1_i32_906 : BitVec 32 := 1#32
  ⟨c0_i32_904, v602, c1_i32_906⟩

def k0_chk55 (v4 : IVec S16 32) (v1352 : IVec S16 32) : Prop :=
  (∀ a x, ((![v1352, v4] : Fin 2 → IVec S16 32) a x).toNat < S256x32.size a)
theorem k0_idx55_inb : ∀ (v4 : IVec S16 32) (v1352 : IVec S16 32) (k0_hw55 : k0_chk55 v4 v1352), ∀ a x, ((![v1352, v4] : Fin 2 → IVec S16 32) a x).toNat < S256x32.size a := fun v4 v1352 k0_hw55 => k0_hw55

def k0_chk56 (v1352 : IVec S16 32) (v1354 : IVec S16 32) : Prop :=
  (∀ a x, ((![v1352, v1354] : Fin 2 → IVec S16 32) a x).toNat < S256x64.size a)
theorem k0_idx56_inb : ∀ (v1352 : IVec S16 32) (v1354 : IVec S16 32) (k0_hw56 : k0_chk56 v1352 v1354), ∀ a x, ((![v1352, v1354] : Fin 2 → IVec S16 32) a x).toNat < S256x64.size a := fun v1352 v1354 k0_hw56 => k0_hw56
def k0_off32 (k0_t28 : Fin k0_t28_loop.trips) : Fin 1 → Nat :=
  let c3456_i32_2049 : BitVec 32 := 3456#32
  let c0_i32_904 : BitVec 32 := 0#32
  let c1_i32_906 : BitVec 32 := 1#32
  let arg10 : BitVec 32 := Scf.iv c0_i32_904 c1_i32_906 k0_t28
  let c16_i32_2048 : BitVec 32 := 16#32
  let v1358 : BitVec 32 := Scalar.muli arg10 c16_i32_2048
  let v1359 : BitVec 32 := Scalar.addi c3456_i32_2049 v1358
  let v1360 : Index := Scalar.indexCast v1359
  ![v1360.toNat]
@[reducible] def k0_t29_loop : Scf.Loop 32 :=
  let c0_i32_936 : BitVec 32 := 0#32
  let c8_i32_937 : BitVec 32 := 8#32
  let v623 : BitVec 32 := Scalar.addi c0_i32_936 c8_i32_937
  let c1_i32_938 : BitVec 32 := 1#32
  ⟨c0_i32_936, v623, c1_i32_938⟩

def k0_chk57 (v4 : IVec S16 32) (v1352 : IVec S16 32) : Prop :=
  (∀ a x, ((![v1352, v4] : Fin 2 → IVec S16 32) a x).toNat < S256x32.size a)
theorem k0_idx57_inb : ∀ (v4 : IVec S16 32) (v1352 : IVec S16 32) (k0_hw57 : k0_chk57 v4 v1352), ∀ a x, ((![v1352, v4] : Fin 2 → IVec S16 32) a x).toNat < S256x32.size a := fun v4 v1352 k0_hw57 => k0_hw57

def k0_chk58 (v1352 : IVec S16 32) (v1354 : IVec S16 32) : Prop :=
  (∀ a x, ((![v1352, v1354] : Fin 2 → IVec S16 32) a x).toNat < S256x64.size a)
theorem k0_idx58_inb : ∀ (v1352 : IVec S16 32) (v1354 : IVec S16 32) (k0_hw58 : k0_chk58 v1352 v1354), ∀ a x, ((![v1352, v1354] : Fin 2 → IVec S16 32) a x).toNat < S256x64.size a := fun v1352 v1354 k0_hw58 => k0_hw58
def k0_off33 (k0_t29 : Fin k0_t29_loop.trips) : Fin 1 → Nat :=
  let c3584_i32_2049 : BitVec 32 := 3584#32
  let c0_i32_936 : BitVec 32 := 0#32
  let c1_i32_938 : BitVec 32 := 1#32
  let arg10 : BitVec 32 := Scf.iv c0_i32_936 c1_i32_938 k0_t29
  let c16_i32_2048 : BitVec 32 := 16#32
  let v1358 : BitVec 32 := Scalar.muli arg10 c16_i32_2048
  let v1359 : BitVec 32 := Scalar.addi c3584_i32_2049 v1358
  let v1360 : Index := Scalar.indexCast v1359
  ![v1360.toNat]
@[reducible] def k0_t30_loop : Scf.Loop 32 :=
  let c0_i32_968 : BitVec 32 := 0#32
  let c8_i32_969 : BitVec 32 := 8#32
  let v644 : BitVec 32 := Scalar.addi c0_i32_968 c8_i32_969
  let c1_i32_970 : BitVec 32 := 1#32
  ⟨c0_i32_968, v644, c1_i32_970⟩

def k0_chk59 (v4 : IVec S16 32) (v1352 : IVec S16 32) : Prop :=
  (∀ a x, ((![v1352, v4] : Fin 2 → IVec S16 32) a x).toNat < S256x32.size a)
theorem k0_idx59_inb : ∀ (v4 : IVec S16 32) (v1352 : IVec S16 32) (k0_hw59 : k0_chk59 v4 v1352), ∀ a x, ((![v1352, v4] : Fin 2 → IVec S16 32) a x).toNat < S256x32.size a := fun v4 v1352 k0_hw59 => k0_hw59

def k0_chk60 (v1352 : IVec S16 32) (v1354 : IVec S16 32) : Prop :=
  (∀ a x, ((![v1352, v1354] : Fin 2 → IVec S16 32) a x).toNat < S256x64.size a)
theorem k0_idx60_inb : ∀ (v1352 : IVec S16 32) (v1354 : IVec S16 32) (k0_hw60 : k0_chk60 v1352 v1354), ∀ a x, ((![v1352, v1354] : Fin 2 → IVec S16 32) a x).toNat < S256x64.size a := fun v1352 v1354 k0_hw60 => k0_hw60
def k0_off34 (k0_t30 : Fin k0_t30_loop.trips) : Fin 1 → Nat :=
  let c3712_i32_2049 : BitVec 32 := 3712#32
  let c0_i32_968 : BitVec 32 := 0#32
  let c1_i32_970 : BitVec 32 := 1#32
  let arg10 : BitVec 32 := Scf.iv c0_i32_968 c1_i32_970 k0_t30
  let c16_i32_2048 : BitVec 32 := 16#32
  let v1358 : BitVec 32 := Scalar.muli arg10 c16_i32_2048
  let v1359 : BitVec 32 := Scalar.addi c3712_i32_2049 v1358
  let v1360 : Index := Scalar.indexCast v1359
  ![v1360.toNat]
@[reducible] def k0_t31_loop : Scf.Loop 32 :=
  let c0_i32_1000 : BitVec 32 := 0#32
  let c8_i32_1001 : BitVec 32 := 8#32
  let v665 : BitVec 32 := Scalar.addi c0_i32_1000 c8_i32_1001
  let c1_i32_1002 : BitVec 32 := 1#32
  ⟨c0_i32_1000, v665, c1_i32_1002⟩

def k0_chk61 (v4 : IVec S16 32) (v1352 : IVec S16 32) : Prop :=
  (∀ a x, ((![v1352, v4] : Fin 2 → IVec S16 32) a x).toNat < S256x32.size a)
theorem k0_idx61_inb : ∀ (v4 : IVec S16 32) (v1352 : IVec S16 32) (k0_hw61 : k0_chk61 v4 v1352), ∀ a x, ((![v1352, v4] : Fin 2 → IVec S16 32) a x).toNat < S256x32.size a := fun v4 v1352 k0_hw61 => k0_hw61

def k0_chk62 (v1352 : IVec S16 32) (v1354 : IVec S16 32) : Prop :=
  (∀ a x, ((![v1352, v1354] : Fin 2 → IVec S16 32) a x).toNat < S256x64.size a)
theorem k0_idx62_inb : ∀ (v1352 : IVec S16 32) (v1354 : IVec S16 32) (k0_hw62 : k0_chk62 v1352 v1354), ∀ a x, ((![v1352, v1354] : Fin 2 → IVec S16 32) a x).toNat < S256x64.size a := fun v1352 v1354 k0_hw62 => k0_hw62
def k0_off35 (k0_t31 : Fin k0_t31_loop.trips) : Fin 1 → Nat :=
  let c3840_i32_2049 : BitVec 32 := 3840#32
  let c0_i32_1000 : BitVec 32 := 0#32
  let c1_i32_1002 : BitVec 32 := 1#32
  let arg10 : BitVec 32 := Scf.iv c0_i32_1000 c1_i32_1002 k0_t31
  let c16_i32_2048 : BitVec 32 := 16#32
  let v1358 : BitVec 32 := Scalar.muli arg10 c16_i32_2048
  let v1359 : BitVec 32 := Scalar.addi c3840_i32_2049 v1358
  let v1360 : Index := Scalar.indexCast v1359
  ![v1360.toNat]
@[reducible] def k0_t32_loop : Scf.Loop 32 :=
  let c0_i32_1032 : BitVec 32 := 0#32
  let c8_i32_1033 : BitVec 32 := 8#32
  let v686 : BitVec 32 := Scalar.addi c0_i32_1032 c8_i32_1033
  let c1_i32_1034 : BitVec 32 := 1#32
  ⟨c0_i32_1032, v686, c1_i32_1034⟩

def k0_chk63 (v4 : IVec S16 32) (v1352 : IVec S16 32) : Prop :=
  (∀ a x, ((![v1352, v4] : Fin 2 → IVec S16 32) a x).toNat < S256x32.size a)
theorem k0_idx63_inb : ∀ (v4 : IVec S16 32) (v1352 : IVec S16 32) (k0_hw63 : k0_chk63 v4 v1352), ∀ a x, ((![v1352, v4] : Fin 2 → IVec S16 32) a x).toNat < S256x32.size a := fun v4 v1352 k0_hw63 => k0_hw63

def k0_chk64 (v1352 : IVec S16 32) (v1354 : IVec S16 32) : Prop :=
  (∀ a x, ((![v1352, v1354] : Fin 2 → IVec S16 32) a x).toNat < S256x64.size a)
theorem k0_idx64_inb : ∀ (v1352 : IVec S16 32) (v1354 : IVec S16 32) (k0_hw64 : k0_chk64 v1352 v1354), ∀ a x, ((![v1352, v1354] : Fin 2 → IVec S16 32) a x).toNat < S256x64.size a := fun v1352 v1354 k0_hw64 => k0_hw64
def k0_off36 (k0_t32 : Fin k0_t32_loop.trips) : Fin 1 → Nat :=
  let c3968_i32_2049 : BitVec 32 := 3968#32
  let c0_i32_1032 : BitVec 32 := 0#32
  let c1_i32_1034 : BitVec 32 := 1#32
  let arg10 : BitVec 32 := Scf.iv c0_i32_1032 c1_i32_1034 k0_t32
  let c16_i32_2048 : BitVec 32 := 16#32
  let v1358 : BitVec 32 := Scalar.muli arg10 c16_i32_2048
  let v1359 : BitVec 32 := Scalar.addi c3968_i32_2049 v1358
  let v1360 : Index := Scalar.indexCast v1359
  ![v1360.toNat]
@[reducible] def k0_t33_loop : Scf.Loop 32 :=
  let c0_i32_1064 : BitVec 32 := 0#32
  let c8_i32_1065 : BitVec 32 := 8#32
  let v707 : BitVec 32 := Scalar.addi c0_i32_1064 c8_i32_1065
  let c1_i32_1066 : BitVec 32 := 1#32
  ⟨c0_i32_1064, v707, c1_i32_1066⟩

def k0_chk65 (v4 : IVec S16 32) (v1352 : IVec S16 32) : Prop :=
  (∀ a x, ((![v1352, v4] : Fin 2 → IVec S16 32) a x).toNat < S256x32.size a)
theorem k0_idx65_inb : ∀ (v4 : IVec S16 32) (v1352 : IVec S16 32) (k0_hw65 : k0_chk65 v4 v1352), ∀ a x, ((![v1352, v4] : Fin 2 → IVec S16 32) a x).toNat < S256x32.size a := fun v4 v1352 k0_hw65 => k0_hw65

def k0_chk66 (v1352 : IVec S16 32) (v1354 : IVec S16 32) : Prop :=
  (∀ a x, ((![v1352, v1354] : Fin 2 → IVec S16 32) a x).toNat < S256x64.size a)
theorem k0_idx66_inb : ∀ (v1352 : IVec S16 32) (v1354 : IVec S16 32) (k0_hw66 : k0_chk66 v1352 v1354), ∀ a x, ((![v1352, v1354] : Fin 2 → IVec S16 32) a x).toNat < S256x64.size a := fun v1352 v1354 k0_hw66 => k0_hw66
def k0_off37 (k0_t33 : Fin k0_t33_loop.trips) : Fin 1 → Nat :=
  let c4096_i32_2049 : BitVec 32 := 4096#32
  let c0_i32_1064 : BitVec 32 := 0#32
  let c1_i32_1066 : BitVec 32 := 1#32
  let arg10 : BitVec 32 := Scf.iv c0_i32_1064 c1_i32_1066 k0_t33
  let c16_i32_2048 : BitVec 32 := 16#32
  let v1358 : BitVec 32 := Scalar.muli arg10 c16_i32_2048
  let v1359 : BitVec 32 := Scalar.addi c4096_i32_2049 v1358
  let v1360 : Index := Scalar.indexCast v1359
  ![v1360.toNat]
@[reducible] def k0_t34_loop : Scf.Loop 32 :=
  let c0_i32_1096 : BitVec 32 := 0#32
  let c8_i32_1097 : BitVec 32 := 8#32
  let v728 : BitVec 32 := Scalar.addi c0_i32_1096 c8_i32_1097
  let c1_i32_1098 : BitVec 32 := 1#32
  ⟨c0_i32_1096, v728, c1_i32_1098⟩

def k0_chk67 (v4 : IVec S16 32) (v1352 : IVec S16 32) : Prop :=
  (∀ a x, ((![v1352, v4] : Fin 2 → IVec S16 32) a x).toNat < S256x32.size a)
theorem k0_idx67_inb : ∀ (v4 : IVec S16 32) (v1352 : IVec S16 32) (k0_hw67 : k0_chk67 v4 v1352), ∀ a x, ((![v1352, v4] : Fin 2 → IVec S16 32) a x).toNat < S256x32.size a := fun v4 v1352 k0_hw67 => k0_hw67

def k0_chk68 (v1352 : IVec S16 32) (v1354 : IVec S16 32) : Prop :=
  (∀ a x, ((![v1352, v1354] : Fin 2 → IVec S16 32) a x).toNat < S256x64.size a)
theorem k0_idx68_inb : ∀ (v1352 : IVec S16 32) (v1354 : IVec S16 32) (k0_hw68 : k0_chk68 v1352 v1354), ∀ a x, ((![v1352, v1354] : Fin 2 → IVec S16 32) a x).toNat < S256x64.size a := fun v1352 v1354 k0_hw68 => k0_hw68
def k0_off38 (k0_t34 : Fin k0_t34_loop.trips) : Fin 1 → Nat :=
  let c4224_i32_2049 : BitVec 32 := 4224#32
  let c0_i32_1096 : BitVec 32 := 0#32
  let c1_i32_1098 : BitVec 32 := 1#32
  let arg10 : BitVec 32 := Scf.iv c0_i32_1096 c1_i32_1098 k0_t34
  let c16_i32_2048 : BitVec 32 := 16#32
  let v1358 : BitVec 32 := Scalar.muli arg10 c16_i32_2048
  let v1359 : BitVec 32 := Scalar.addi c4224_i32_2049 v1358
  let v1360 : Index := Scalar.indexCast v1359
  ![v1360.toNat]
@[reducible] def k0_t35_loop : Scf.Loop 32 :=
  let c0_i32_1128 : BitVec 32 := 0#32
  let c8_i32_1129 : BitVec 32 := 8#32
  let v749 : BitVec 32 := Scalar.addi c0_i32_1128 c8_i32_1129
  let c1_i32_1130 : BitVec 32 := 1#32
  ⟨c0_i32_1128, v749, c1_i32_1130⟩

def k0_chk69 (v4 : IVec S16 32) (v1352 : IVec S16 32) : Prop :=
  (∀ a x, ((![v1352, v4] : Fin 2 → IVec S16 32) a x).toNat < S256x32.size a)
theorem k0_idx69_inb : ∀ (v4 : IVec S16 32) (v1352 : IVec S16 32) (k0_hw69 : k0_chk69 v4 v1352), ∀ a x, ((![v1352, v4] : Fin 2 → IVec S16 32) a x).toNat < S256x32.size a := fun v4 v1352 k0_hw69 => k0_hw69

def k0_chk70 (v1352 : IVec S16 32) (v1354 : IVec S16 32) : Prop :=
  (∀ a x, ((![v1352, v1354] : Fin 2 → IVec S16 32) a x).toNat < S256x64.size a)
theorem k0_idx70_inb : ∀ (v1352 : IVec S16 32) (v1354 : IVec S16 32) (k0_hw70 : k0_chk70 v1352 v1354), ∀ a x, ((![v1352, v1354] : Fin 2 → IVec S16 32) a x).toNat < S256x64.size a := fun v1352 v1354 k0_hw70 => k0_hw70
def k0_off39 (k0_t35 : Fin k0_t35_loop.trips) : Fin 1 → Nat :=
  let c4352_i32_2049 : BitVec 32 := 4352#32
  let c0_i32_1128 : BitVec 32 := 0#32
  let c1_i32_1130 : BitVec 32 := 1#32
  let arg10 : BitVec 32 := Scf.iv c0_i32_1128 c1_i32_1130 k0_t35
  let c16_i32_2048 : BitVec 32 := 16#32
  let v1358 : BitVec 32 := Scalar.muli arg10 c16_i32_2048
  let v1359 : BitVec 32 := Scalar.addi c4352_i32_2049 v1358
  let v1360 : Index := Scalar.indexCast v1359
  ![v1360.toNat]
@[reducible] def k0_t36_loop : Scf.Loop 32 :=
  let c0_i32_1160 : BitVec 32 := 0#32
  let c8_i32_1161 : BitVec 32 := 8#32
  let v770 : BitVec 32 := Scalar.addi c0_i32_1160 c8_i32_1161
  let c1_i32_1162 : BitVec 32 := 1#32
  ⟨c0_i32_1160, v770, c1_i32_1162⟩

def k0_chk71 (v4 : IVec S16 32) (v1352 : IVec S16 32) : Prop :=
  (∀ a x, ((![v1352, v4] : Fin 2 → IVec S16 32) a x).toNat < S256x32.size a)
theorem k0_idx71_inb : ∀ (v4 : IVec S16 32) (v1352 : IVec S16 32) (k0_hw71 : k0_chk71 v4 v1352), ∀ a x, ((![v1352, v4] : Fin 2 → IVec S16 32) a x).toNat < S256x32.size a := fun v4 v1352 k0_hw71 => k0_hw71

def k0_chk72 (v1352 : IVec S16 32) (v1354 : IVec S16 32) : Prop :=
  (∀ a x, ((![v1352, v1354] : Fin 2 → IVec S16 32) a x).toNat < S256x64.size a)
theorem k0_idx72_inb : ∀ (v1352 : IVec S16 32) (v1354 : IVec S16 32) (k0_hw72 : k0_chk72 v1352 v1354), ∀ a x, ((![v1352, v1354] : Fin 2 → IVec S16 32) a x).toNat < S256x64.size a := fun v1352 v1354 k0_hw72 => k0_hw72
def k0_off40 (k0_t36 : Fin k0_t36_loop.trips) : Fin 1 → Nat :=
  let c4480_i32_2049 : BitVec 32 := 4480#32
  let c0_i32_1160 : BitVec 32 := 0#32
  let c1_i32_1162 : BitVec 32 := 1#32
  let arg10 : BitVec 32 := Scf.iv c0_i32_1160 c1_i32_1162 k0_t36
  let c16_i32_2048 : BitVec 32 := 16#32
  let v1358 : BitVec 32 := Scalar.muli arg10 c16_i32_2048
  let v1359 : BitVec 32 := Scalar.addi c4480_i32_2049 v1358
  let v1360 : Index := Scalar.indexCast v1359
  ![v1360.toNat]
@[reducible] def k0_t37_loop : Scf.Loop 32 :=
  let c0_i32_1192 : BitVec 32 := 0#32
  let c8_i32_1193 : BitVec 32 := 8#32
  let v791 : BitVec 32 := Scalar.addi c0_i32_1192 c8_i32_1193
  let c1_i32_1194 : BitVec 32 := 1#32
  ⟨c0_i32_1192, v791, c1_i32_1194⟩

def k0_chk73 (v4 : IVec S16 32) (v1352 : IVec S16 32) : Prop :=
  (∀ a x, ((![v1352, v4] : Fin 2 → IVec S16 32) a x).toNat < S256x32.size a)
theorem k0_idx73_inb : ∀ (v4 : IVec S16 32) (v1352 : IVec S16 32) (k0_hw73 : k0_chk73 v4 v1352), ∀ a x, ((![v1352, v4] : Fin 2 → IVec S16 32) a x).toNat < S256x32.size a := fun v4 v1352 k0_hw73 => k0_hw73

def k0_chk74 (v1352 : IVec S16 32) (v1354 : IVec S16 32) : Prop :=
  (∀ a x, ((![v1352, v1354] : Fin 2 → IVec S16 32) a x).toNat < S256x64.size a)
theorem k0_idx74_inb : ∀ (v1352 : IVec S16 32) (v1354 : IVec S16 32) (k0_hw74 : k0_chk74 v1352 v1354), ∀ a x, ((![v1352, v1354] : Fin 2 → IVec S16 32) a x).toNat < S256x64.size a := fun v1352 v1354 k0_hw74 => k0_hw74
def k0_off41 (k0_t37 : Fin k0_t37_loop.trips) : Fin 1 → Nat :=
  let c4608_i32_2049 : BitVec 32 := 4608#32
  let c0_i32_1192 : BitVec 32 := 0#32
  let c1_i32_1194 : BitVec 32 := 1#32
  let arg10 : BitVec 32 := Scf.iv c0_i32_1192 c1_i32_1194 k0_t37
  let c16_i32_2048 : BitVec 32 := 16#32
  let v1358 : BitVec 32 := Scalar.muli arg10 c16_i32_2048
  let v1359 : BitVec 32 := Scalar.addi c4608_i32_2049 v1358
  let v1360 : Index := Scalar.indexCast v1359
  ![v1360.toNat]
@[reducible] def k0_t38_loop : Scf.Loop 32 :=
  let c0_i32_1224 : BitVec 32 := 0#32
  let c8_i32_1225 : BitVec 32 := 8#32
  let v812 : BitVec 32 := Scalar.addi c0_i32_1224 c8_i32_1225
  let c1_i32_1226 : BitVec 32 := 1#32
  ⟨c0_i32_1224, v812, c1_i32_1226⟩

def k0_chk75 (v4 : IVec S16 32) (v1352 : IVec S16 32) : Prop :=
  (∀ a x, ((![v1352, v4] : Fin 2 → IVec S16 32) a x).toNat < S256x32.size a)
theorem k0_idx75_inb : ∀ (v4 : IVec S16 32) (v1352 : IVec S16 32) (k0_hw75 : k0_chk75 v4 v1352), ∀ a x, ((![v1352, v4] : Fin 2 → IVec S16 32) a x).toNat < S256x32.size a := fun v4 v1352 k0_hw75 => k0_hw75

def k0_chk76 (v1352 : IVec S16 32) (v1354 : IVec S16 32) : Prop :=
  (∀ a x, ((![v1352, v1354] : Fin 2 → IVec S16 32) a x).toNat < S256x64.size a)
theorem k0_idx76_inb : ∀ (v1352 : IVec S16 32) (v1354 : IVec S16 32) (k0_hw76 : k0_chk76 v1352 v1354), ∀ a x, ((![v1352, v1354] : Fin 2 → IVec S16 32) a x).toNat < S256x64.size a := fun v1352 v1354 k0_hw76 => k0_hw76
def k0_off42 (k0_t38 : Fin k0_t38_loop.trips) : Fin 1 → Nat :=
  let c4736_i32_2049 : BitVec 32 := 4736#32
  let c0_i32_1224 : BitVec 32 := 0#32
  let c1_i32_1226 : BitVec 32 := 1#32
  let arg10 : BitVec 32 := Scf.iv c0_i32_1224 c1_i32_1226 k0_t38
  let c16_i32_2048 : BitVec 32 := 16#32
  let v1358 : BitVec 32 := Scalar.muli arg10 c16_i32_2048
  let v1359 : BitVec 32 := Scalar.addi c4736_i32_2049 v1358
  let v1360 : Index := Scalar.indexCast v1359
  ![v1360.toNat]
@[reducible] def k0_t39_loop : Scf.Loop 32 :=
  let c0_i32_1256 : BitVec 32 := 0#32
  let c8_i32_1257 : BitVec 32 := 8#32
  let v833 : BitVec 32 := Scalar.addi c0_i32_1256 c8_i32_1257
  let c1_i32_1258 : BitVec 32 := 1#32
  ⟨c0_i32_1256, v833, c1_i32_1258⟩

def k0_chk77 (v4 : IVec S16 32) (v1352 : IVec S16 32) : Prop :=
  (∀ a x, ((![v1352, v4] : Fin 2 → IVec S16 32) a x).toNat < S256x32.size a)
theorem k0_idx77_inb : ∀ (v4 : IVec S16 32) (v1352 : IVec S16 32) (k0_hw77 : k0_chk77 v4 v1352), ∀ a x, ((![v1352, v4] : Fin 2 → IVec S16 32) a x).toNat < S256x32.size a := fun v4 v1352 k0_hw77 => k0_hw77

def k0_chk78 (v1352 : IVec S16 32) (v1354 : IVec S16 32) : Prop :=
  (∀ a x, ((![v1352, v1354] : Fin 2 → IVec S16 32) a x).toNat < S256x64.size a)
theorem k0_idx78_inb : ∀ (v1352 : IVec S16 32) (v1354 : IVec S16 32) (k0_hw78 : k0_chk78 v1352 v1354), ∀ a x, ((![v1352, v1354] : Fin 2 → IVec S16 32) a x).toNat < S256x64.size a := fun v1352 v1354 k0_hw78 => k0_hw78
def k0_off43 (k0_t39 : Fin k0_t39_loop.trips) : Fin 1 → Nat :=
  let c4864_i32_2049 : BitVec 32 := 4864#32
  let c0_i32_1256 : BitVec 32 := 0#32
  let c1_i32_1258 : BitVec 32 := 1#32
  let arg10 : BitVec 32 := Scf.iv c0_i32_1256 c1_i32_1258 k0_t39
  let c16_i32_2048 : BitVec 32 := 16#32
  let v1358 : BitVec 32 := Scalar.muli arg10 c16_i32_2048
  let v1359 : BitVec 32 := Scalar.addi c4864_i32_2049 v1358
  let v1360 : Index := Scalar.indexCast v1359
  ![v1360.toNat]
@[reducible] def k0_t40_loop : Scf.Loop 32 :=
  let c0_i32_1288 : BitVec 32 := 0#32
  let c8_i32_1289 : BitVec 32 := 8#32
  let v854 : BitVec 32 := Scalar.addi c0_i32_1288 c8_i32_1289
  let c1_i32_1290 : BitVec 32 := 1#32
  ⟨c0_i32_1288, v854, c1_i32_1290⟩

def k0_chk79 (v4 : IVec S16 32) (v1352 : IVec S16 32) : Prop :=
  (∀ a x, ((![v1352, v4] : Fin 2 → IVec S16 32) a x).toNat < S256x32.size a)
theorem k0_idx79_inb : ∀ (v4 : IVec S16 32) (v1352 : IVec S16 32) (k0_hw79 : k0_chk79 v4 v1352), ∀ a x, ((![v1352, v4] : Fin 2 → IVec S16 32) a x).toNat < S256x32.size a := fun v4 v1352 k0_hw79 => k0_hw79

def k0_chk80 (v1352 : IVec S16 32) (v1354 : IVec S16 32) : Prop :=
  (∀ a x, ((![v1352, v1354] : Fin 2 → IVec S16 32) a x).toNat < S256x64.size a)
theorem k0_idx80_inb : ∀ (v1352 : IVec S16 32) (v1354 : IVec S16 32) (k0_hw80 : k0_chk80 v1352 v1354), ∀ a x, ((![v1352, v1354] : Fin 2 → IVec S16 32) a x).toNat < S256x64.size a := fun v1352 v1354 k0_hw80 => k0_hw80
def k0_off44 (k0_t40 : Fin k0_t40_loop.trips) : Fin 1 → Nat :=
  let c4992_i32_2049 : BitVec 32 := 4992#32
  let c0_i32_1288 : BitVec 32 := 0#32
  let c1_i32_1290 : BitVec 32 := 1#32
  let arg10 : BitVec 32 := Scf.iv c0_i32_1288 c1_i32_1290 k0_t40
  let c16_i32_2048 : BitVec 32 := 16#32
  let v1358 : BitVec 32 := Scalar.muli arg10 c16_i32_2048
  let v1359 : BitVec 32 := Scalar.addi c4992_i32_2049 v1358
  let v1360 : Index := Scalar.indexCast v1359
  ![v1360.toNat]
@[reducible] def k0_t41_loop : Scf.Loop 32 :=
  let c0_i32_1320 : BitVec 32 := 0#32
  let c8_i32_1321 : BitVec 32 := 8#32
  let v875 : BitVec 32 := Scalar.addi c0_i32_1320 c8_i32_1321
  let c1_i32_1322 : BitVec 32 := 1#32
  ⟨c0_i32_1320, v875, c1_i32_1322⟩

def k0_chk81 (v4 : IVec S16 32) (v1352 : IVec S16 32) : Prop :=
  (∀ a x, ((![v1352, v4] : Fin 2 → IVec S16 32) a x).toNat < S256x32.size a)
theorem k0_idx81_inb : ∀ (v4 : IVec S16 32) (v1352 : IVec S16 32) (k0_hw81 : k0_chk81 v4 v1352), ∀ a x, ((![v1352, v4] : Fin 2 → IVec S16 32) a x).toNat < S256x32.size a := fun v4 v1352 k0_hw81 => k0_hw81

def k0_chk82 (v1352 : IVec S16 32) (v1354 : IVec S16 32) : Prop :=
  (∀ a x, ((![v1352, v1354] : Fin 2 → IVec S16 32) a x).toNat < S256x64.size a)
theorem k0_idx82_inb : ∀ (v1352 : IVec S16 32) (v1354 : IVec S16 32) (k0_hw82 : k0_chk82 v1352 v1354), ∀ a x, ((![v1352, v1354] : Fin 2 → IVec S16 32) a x).toNat < S256x64.size a := fun v1352 v1354 k0_hw82 => k0_hw82
def k0_off45 (k0_t41 : Fin k0_t41_loop.trips) : Fin 1 → Nat :=
  let c5120_i32_2049 : BitVec 32 := 5120#32
  let c0_i32_1320 : BitVec 32 := 0#32
  let c1_i32_1322 : BitVec 32 := 1#32
  let arg10 : BitVec 32 := Scf.iv c0_i32_1320 c1_i32_1322 k0_t41
  let c16_i32_2048 : BitVec 32 := 16#32
  let v1358 : BitVec 32 := Scalar.muli arg10 c16_i32_2048
  let v1359 : BitVec 32 := Scalar.addi c5120_i32_2049 v1358
  let v1360 : Index := Scalar.indexCast v1359
  ![v1360.toNat]
@[reducible] def k0_t42_loop : Scf.Loop 32 :=
  let c0_i32_1352 : BitVec 32 := 0#32
  let c8_i32_1353 : BitVec 32 := 8#32
  let v896 : BitVec 32 := Scalar.addi c0_i32_1352 c8_i32_1353
  let c1_i32_1354 : BitVec 32 := 1#32
  ⟨c0_i32_1352, v896, c1_i32_1354⟩

def k0_chk83 (v4 : IVec S16 32) (v1352 : IVec S16 32) : Prop :=
  (∀ a x, ((![v1352, v4] : Fin 2 → IVec S16 32) a x).toNat < S256x32.size a)
theorem k0_idx83_inb : ∀ (v4 : IVec S16 32) (v1352 : IVec S16 32) (k0_hw83 : k0_chk83 v4 v1352), ∀ a x, ((![v1352, v4] : Fin 2 → IVec S16 32) a x).toNat < S256x32.size a := fun v4 v1352 k0_hw83 => k0_hw83

def k0_chk84 (v1352 : IVec S16 32) (v1354 : IVec S16 32) : Prop :=
  (∀ a x, ((![v1352, v1354] : Fin 2 → IVec S16 32) a x).toNat < S256x64.size a)
theorem k0_idx84_inb : ∀ (v1352 : IVec S16 32) (v1354 : IVec S16 32) (k0_hw84 : k0_chk84 v1352 v1354), ∀ a x, ((![v1352, v1354] : Fin 2 → IVec S16 32) a x).toNat < S256x64.size a := fun v1352 v1354 k0_hw84 => k0_hw84
def k0_off46 (k0_t42 : Fin k0_t42_loop.trips) : Fin 1 → Nat :=
  let c5248_i32_2049 : BitVec 32 := 5248#32
  let c0_i32_1352 : BitVec 32 := 0#32
  let c1_i32_1354 : BitVec 32 := 1#32
  let arg10 : BitVec 32 := Scf.iv c0_i32_1352 c1_i32_1354 k0_t42
  let c16_i32_2048 : BitVec 32 := 16#32
  let v1358 : BitVec 32 := Scalar.muli arg10 c16_i32_2048
  let v1359 : BitVec 32 := Scalar.addi c5248_i32_2049 v1358
  let v1360 : Index := Scalar.indexCast v1359
  ![v1360.toNat]
@[reducible] def k0_t43_loop : Scf.Loop 32 :=
  let c0_i32_1384 : BitVec 32 := 0#32
  let c8_i32_1385 : BitVec 32 := 8#32
  let v917 : BitVec 32 := Scalar.addi c0_i32_1384 c8_i32_1385
  let c1_i32_1386 : BitVec 32 := 1#32
  ⟨c0_i32_1384, v917, c1_i32_1386⟩

def k0_chk85 (v4 : IVec S16 32) (v1352 : IVec S16 32) : Prop :=
  (∀ a x, ((![v1352, v4] : Fin 2 → IVec S16 32) a x).toNat < S256x32.size a)
theorem k0_idx85_inb : ∀ (v4 : IVec S16 32) (v1352 : IVec S16 32) (k0_hw85 : k0_chk85 v4 v1352), ∀ a x, ((![v1352, v4] : Fin 2 → IVec S16 32) a x).toNat < S256x32.size a := fun v4 v1352 k0_hw85 => k0_hw85

def k0_chk86 (v1352 : IVec S16 32) (v1354 : IVec S16 32) : Prop :=
  (∀ a x, ((![v1352, v1354] : Fin 2 → IVec S16 32) a x).toNat < S256x64.size a)
theorem k0_idx86_inb : ∀ (v1352 : IVec S16 32) (v1354 : IVec S16 32) (k0_hw86 : k0_chk86 v1352 v1354), ∀ a x, ((![v1352, v1354] : Fin 2 → IVec S16 32) a x).toNat < S256x64.size a := fun v1352 v1354 k0_hw86 => k0_hw86
def k0_off47 (k0_t43 : Fin k0_t43_loop.trips) : Fin 1 → Nat :=
  let c5376_i32_2049 : BitVec 32 := 5376#32
  let c0_i32_1384 : BitVec 32 := 0#32
  let c1_i32_1386 : BitVec 32 := 1#32
  let arg10 : BitVec 32 := Scf.iv c0_i32_1384 c1_i32_1386 k0_t43
  let c16_i32_2048 : BitVec 32 := 16#32
  let v1358 : BitVec 32 := Scalar.muli arg10 c16_i32_2048
  let v1359 : BitVec 32 := Scalar.addi c5376_i32_2049 v1358
  let v1360 : Index := Scalar.indexCast v1359
  ![v1360.toNat]
@[reducible] def k0_t44_loop : Scf.Loop 32 :=
  let c0_i32_1416 : BitVec 32 := 0#32
  let c8_i32_1417 : BitVec 32 := 8#32
  let v938 : BitVec 32 := Scalar.addi c0_i32_1416 c8_i32_1417
  let c1_i32_1418 : BitVec 32 := 1#32
  ⟨c0_i32_1416, v938, c1_i32_1418⟩

def k0_chk87 (v4 : IVec S16 32) (v1352 : IVec S16 32) : Prop :=
  (∀ a x, ((![v1352, v4] : Fin 2 → IVec S16 32) a x).toNat < S256x32.size a)
theorem k0_idx87_inb : ∀ (v4 : IVec S16 32) (v1352 : IVec S16 32) (k0_hw87 : k0_chk87 v4 v1352), ∀ a x, ((![v1352, v4] : Fin 2 → IVec S16 32) a x).toNat < S256x32.size a := fun v4 v1352 k0_hw87 => k0_hw87

def k0_chk88 (v1352 : IVec S16 32) (v1354 : IVec S16 32) : Prop :=
  (∀ a x, ((![v1352, v1354] : Fin 2 → IVec S16 32) a x).toNat < S256x64.size a)
theorem k0_idx88_inb : ∀ (v1352 : IVec S16 32) (v1354 : IVec S16 32) (k0_hw88 : k0_chk88 v1352 v1354), ∀ a x, ((![v1352, v1354] : Fin 2 → IVec S16 32) a x).toNat < S256x64.size a := fun v1352 v1354 k0_hw88 => k0_hw88
def k0_off48 (k0_t44 : Fin k0_t44_loop.trips) : Fin 1 → Nat :=
  let c5504_i32_2049 : BitVec 32 := 5504#32
  let c0_i32_1416 : BitVec 32 := 0#32
  let c1_i32_1418 : BitVec 32 := 1#32
  let arg10 : BitVec 32 := Scf.iv c0_i32_1416 c1_i32_1418 k0_t44
  let c16_i32_2048 : BitVec 32 := 16#32
  let v1358 : BitVec 32 := Scalar.muli arg10 c16_i32_2048
  let v1359 : BitVec 32 := Scalar.addi c5504_i32_2049 v1358
  let v1360 : Index := Scalar.indexCast v1359
  ![v1360.toNat]
@[reducible] def k0_t45_loop : Scf.Loop 32 :=
  let c0_i32_1448 : BitVec 32 := 0#32
  let c8_i32_1449 : BitVec 32 := 8#32
  let v959 : BitVec 32 := Scalar.addi c0_i32_1448 c8_i32_1449
  let c1_i32_1450 : BitVec 32 := 1#32
  ⟨c0_i32_1448, v959, c1_i32_1450⟩

def k0_chk89 (v4 : IVec S16 32) (v1352 : IVec S16 32) : Prop :=
  (∀ a x, ((![v1352, v4] : Fin 2 → IVec S16 32) a x).toNat < S256x32.size a)
theorem k0_idx89_inb : ∀ (v4 : IVec S16 32) (v1352 : IVec S16 32) (k0_hw89 : k0_chk89 v4 v1352), ∀ a x, ((![v1352, v4] : Fin 2 → IVec S16 32) a x).toNat < S256x32.size a := fun v4 v1352 k0_hw89 => k0_hw89

def k0_chk90 (v1352 : IVec S16 32) (v1354 : IVec S16 32) : Prop :=
  (∀ a x, ((![v1352, v1354] : Fin 2 → IVec S16 32) a x).toNat < S256x64.size a)
theorem k0_idx90_inb : ∀ (v1352 : IVec S16 32) (v1354 : IVec S16 32) (k0_hw90 : k0_chk90 v1352 v1354), ∀ a x, ((![v1352, v1354] : Fin 2 → IVec S16 32) a x).toNat < S256x64.size a := fun v1352 v1354 k0_hw90 => k0_hw90
def k0_off49 (k0_t45 : Fin k0_t45_loop.trips) : Fin 1 → Nat :=
  let c5632_i32_2049 : BitVec 32 := 5632#32
  let c0_i32_1448 : BitVec 32 := 0#32
  let c1_i32_1450 : BitVec 32 := 1#32
  let arg10 : BitVec 32 := Scf.iv c0_i32_1448 c1_i32_1450 k0_t45
  let c16_i32_2048 : BitVec 32 := 16#32
  let v1358 : BitVec 32 := Scalar.muli arg10 c16_i32_2048
  let v1359 : BitVec 32 := Scalar.addi c5632_i32_2049 v1358
  let v1360 : Index := Scalar.indexCast v1359
  ![v1360.toNat]
@[reducible] def k0_t46_loop : Scf.Loop 32 :=
  let c0_i32_1480 : BitVec 32 := 0#32
  let c8_i32_1481 : BitVec 32 := 8#32
  let v980 : BitVec 32 := Scalar.addi c0_i32_1480 c8_i32_1481
  let c1_i32_1482 : BitVec 32 := 1#32
  ⟨c0_i32_1480, v980, c1_i32_1482⟩

def k0_chk91 (v4 : IVec S16 32) (v1352 : IVec S16 32) : Prop :=
  (∀ a x, ((![v1352, v4] : Fin 2 → IVec S16 32) a x).toNat < S256x32.size a)
theorem k0_idx91_inb : ∀ (v4 : IVec S16 32) (v1352 : IVec S16 32) (k0_hw91 : k0_chk91 v4 v1352), ∀ a x, ((![v1352, v4] : Fin 2 → IVec S16 32) a x).toNat < S256x32.size a := fun v4 v1352 k0_hw91 => k0_hw91

def k0_chk92 (v1352 : IVec S16 32) (v1354 : IVec S16 32) : Prop :=
  (∀ a x, ((![v1352, v1354] : Fin 2 → IVec S16 32) a x).toNat < S256x64.size a)
theorem k0_idx92_inb : ∀ (v1352 : IVec S16 32) (v1354 : IVec S16 32) (k0_hw92 : k0_chk92 v1352 v1354), ∀ a x, ((![v1352, v1354] : Fin 2 → IVec S16 32) a x).toNat < S256x64.size a := fun v1352 v1354 k0_hw92 => k0_hw92
def k0_off50 (k0_t46 : Fin k0_t46_loop.trips) : Fin 1 → Nat :=
  let c5760_i32_2049 : BitVec 32 := 5760#32
  let c0_i32_1480 : BitVec 32 := 0#32
  let c1_i32_1482 : BitVec 32 := 1#32
  let arg10 : BitVec 32 := Scf.iv c0_i32_1480 c1_i32_1482 k0_t46
  let c16_i32_2048 : BitVec 32 := 16#32
  let v1358 : BitVec 32 := Scalar.muli arg10 c16_i32_2048
  let v1359 : BitVec 32 := Scalar.addi c5760_i32_2049 v1358
  let v1360 : Index := Scalar.indexCast v1359
  ![v1360.toNat]
@[reducible] def k0_t47_loop : Scf.Loop 32 :=
  let c0_i32_1512 : BitVec 32 := 0#32
  let c8_i32_1513 : BitVec 32 := 8#32
  let v1001 : BitVec 32 := Scalar.addi c0_i32_1512 c8_i32_1513
  let c1_i32_1514 : BitVec 32 := 1#32
  ⟨c0_i32_1512, v1001, c1_i32_1514⟩

def k0_chk93 (v4 : IVec S16 32) (v1352 : IVec S16 32) : Prop :=
  (∀ a x, ((![v1352, v4] : Fin 2 → IVec S16 32) a x).toNat < S256x32.size a)
theorem k0_idx93_inb : ∀ (v4 : IVec S16 32) (v1352 : IVec S16 32) (k0_hw93 : k0_chk93 v4 v1352), ∀ a x, ((![v1352, v4] : Fin 2 → IVec S16 32) a x).toNat < S256x32.size a := fun v4 v1352 k0_hw93 => k0_hw93

def k0_chk94 (v1352 : IVec S16 32) (v1354 : IVec S16 32) : Prop :=
  (∀ a x, ((![v1352, v1354] : Fin 2 → IVec S16 32) a x).toNat < S256x64.size a)
theorem k0_idx94_inb : ∀ (v1352 : IVec S16 32) (v1354 : IVec S16 32) (k0_hw94 : k0_chk94 v1352 v1354), ∀ a x, ((![v1352, v1354] : Fin 2 → IVec S16 32) a x).toNat < S256x64.size a := fun v1352 v1354 k0_hw94 => k0_hw94
def k0_off51 (k0_t47 : Fin k0_t47_loop.trips) : Fin 1 → Nat :=
  let c5888_i32_2049 : BitVec 32 := 5888#32
  let c0_i32_1512 : BitVec 32 := 0#32
  let c1_i32_1514 : BitVec 32 := 1#32
  let arg10 : BitVec 32 := Scf.iv c0_i32_1512 c1_i32_1514 k0_t47
  let c16_i32_2048 : BitVec 32 := 16#32
  let v1358 : BitVec 32 := Scalar.muli arg10 c16_i32_2048
  let v1359 : BitVec 32 := Scalar.addi c5888_i32_2049 v1358
  let v1360 : Index := Scalar.indexCast v1359
  ![v1360.toNat]
@[reducible] def k0_t48_loop : Scf.Loop 32 :=
  let c0_i32_1544 : BitVec 32 := 0#32
  let c8_i32_1545 : BitVec 32 := 8#32
  let v1022 : BitVec 32 := Scalar.addi c0_i32_1544 c8_i32_1545
  let c1_i32_1546 : BitVec 32 := 1#32
  ⟨c0_i32_1544, v1022, c1_i32_1546⟩

def k0_chk95 (v4 : IVec S16 32) (v1352 : IVec S16 32) : Prop :=
  (∀ a x, ((![v1352, v4] : Fin 2 → IVec S16 32) a x).toNat < S256x32.size a)
theorem k0_idx95_inb : ∀ (v4 : IVec S16 32) (v1352 : IVec S16 32) (k0_hw95 : k0_chk95 v4 v1352), ∀ a x, ((![v1352, v4] : Fin 2 → IVec S16 32) a x).toNat < S256x32.size a := fun v4 v1352 k0_hw95 => k0_hw95

def k0_chk96 (v1352 : IVec S16 32) (v1354 : IVec S16 32) : Prop :=
  (∀ a x, ((![v1352, v1354] : Fin 2 → IVec S16 32) a x).toNat < S256x64.size a)
theorem k0_idx96_inb : ∀ (v1352 : IVec S16 32) (v1354 : IVec S16 32) (k0_hw96 : k0_chk96 v1352 v1354), ∀ a x, ((![v1352, v1354] : Fin 2 → IVec S16 32) a x).toNat < S256x64.size a := fun v1352 v1354 k0_hw96 => k0_hw96
def k0_off52 (k0_t48 : Fin k0_t48_loop.trips) : Fin 1 → Nat :=
  let c6016_i32_2049 : BitVec 32 := 6016#32
  let c0_i32_1544 : BitVec 32 := 0#32
  let c1_i32_1546 : BitVec 32 := 1#32
  let arg10 : BitVec 32 := Scf.iv c0_i32_1544 c1_i32_1546 k0_t48
  let c16_i32_2048 : BitVec 32 := 16#32
  let v1358 : BitVec 32 := Scalar.muli arg10 c16_i32_2048
  let v1359 : BitVec 32 := Scalar.addi c6016_i32_2049 v1358
  let v1360 : Index := Scalar.indexCast v1359
  ![v1360.toNat]
@[reducible] def k0_t49_loop : Scf.Loop 32 :=
  let c0_i32_1576 : BitVec 32 := 0#32
  let c8_i32_1577 : BitVec 32 := 8#32
  let v1043 : BitVec 32 := Scalar.addi c0_i32_1576 c8_i32_1577
  let c1_i32_1578 : BitVec 32 := 1#32
  ⟨c0_i32_1576, v1043, c1_i32_1578⟩

def k0_chk97 (v4 : IVec S16 32) (v1352 : IVec S16 32) : Prop :=
  (∀ a x, ((![v1352, v4] : Fin 2 → IVec S16 32) a x).toNat < S256x32.size a)
theorem k0_idx97_inb : ∀ (v4 : IVec S16 32) (v1352 : IVec S16 32) (k0_hw97 : k0_chk97 v4 v1352), ∀ a x, ((![v1352, v4] : Fin 2 → IVec S16 32) a x).toNat < S256x32.size a := fun v4 v1352 k0_hw97 => k0_hw97

def k0_chk98 (v1352 : IVec S16 32) (v1354 : IVec S16 32) : Prop :=
  (∀ a x, ((![v1352, v1354] : Fin 2 → IVec S16 32) a x).toNat < S256x64.size a)
theorem k0_idx98_inb : ∀ (v1352 : IVec S16 32) (v1354 : IVec S16 32) (k0_hw98 : k0_chk98 v1352 v1354), ∀ a x, ((![v1352, v1354] : Fin 2 → IVec S16 32) a x).toNat < S256x64.size a := fun v1352 v1354 k0_hw98 => k0_hw98
def k0_off53 (k0_t49 : Fin k0_t49_loop.trips) : Fin 1 → Nat :=
  let c6144_i32_2049 : BitVec 32 := 6144#32
  let c0_i32_1576 : BitVec 32 := 0#32
  let c1_i32_1578 : BitVec 32 := 1#32
  let arg10 : BitVec 32 := Scf.iv c0_i32_1576 c1_i32_1578 k0_t49
  let c16_i32_2048 : BitVec 32 := 16#32
  let v1358 : BitVec 32 := Scalar.muli arg10 c16_i32_2048
  let v1359 : BitVec 32 := Scalar.addi c6144_i32_2049 v1358
  let v1360 : Index := Scalar.indexCast v1359
  ![v1360.toNat]
@[reducible] def k0_t50_loop : Scf.Loop 32 :=
  let c0_i32_1608 : BitVec 32 := 0#32
  let c8_i32_1609 : BitVec 32 := 8#32
  let v1064 : BitVec 32 := Scalar.addi c0_i32_1608 c8_i32_1609
  let c1_i32_1610 : BitVec 32 := 1#32
  ⟨c0_i32_1608, v1064, c1_i32_1610⟩

def k0_chk99 (v4 : IVec S16 32) (v1352 : IVec S16 32) : Prop :=
  (∀ a x, ((![v1352, v4] : Fin 2 → IVec S16 32) a x).toNat < S256x32.size a)
theorem k0_idx99_inb : ∀ (v4 : IVec S16 32) (v1352 : IVec S16 32) (k0_hw99 : k0_chk99 v4 v1352), ∀ a x, ((![v1352, v4] : Fin 2 → IVec S16 32) a x).toNat < S256x32.size a := fun v4 v1352 k0_hw99 => k0_hw99

def k0_chk100 (v1352 : IVec S16 32) (v1354 : IVec S16 32) : Prop :=
  (∀ a x, ((![v1352, v1354] : Fin 2 → IVec S16 32) a x).toNat < S256x64.size a)
theorem k0_idx100_inb : ∀ (v1352 : IVec S16 32) (v1354 : IVec S16 32) (k0_hw100 : k0_chk100 v1352 v1354), ∀ a x, ((![v1352, v1354] : Fin 2 → IVec S16 32) a x).toNat < S256x64.size a := fun v1352 v1354 k0_hw100 => k0_hw100
def k0_off54 (k0_t50 : Fin k0_t50_loop.trips) : Fin 1 → Nat :=
  let c6272_i32_2049 : BitVec 32 := 6272#32
  let c0_i32_1608 : BitVec 32 := 0#32
  let c1_i32_1610 : BitVec 32 := 1#32
  let arg10 : BitVec 32 := Scf.iv c0_i32_1608 c1_i32_1610 k0_t50
  let c16_i32_2048 : BitVec 32 := 16#32
  let v1358 : BitVec 32 := Scalar.muli arg10 c16_i32_2048
  let v1359 : BitVec 32 := Scalar.addi c6272_i32_2049 v1358
  let v1360 : Index := Scalar.indexCast v1359
  ![v1360.toNat]
@[reducible] def k0_t51_loop : Scf.Loop 32 :=
  let c0_i32_1640 : BitVec 32 := 0#32
  let c8_i32_1641 : BitVec 32 := 8#32
  let v1085 : BitVec 32 := Scalar.addi c0_i32_1640 c8_i32_1641
  let c1_i32_1642 : BitVec 32 := 1#32
  ⟨c0_i32_1640, v1085, c1_i32_1642⟩

def k0_chk101 (v4 : IVec S16 32) (v1352 : IVec S16 32) : Prop :=
  (∀ a x, ((![v1352, v4] : Fin 2 → IVec S16 32) a x).toNat < S256x32.size a)
theorem k0_idx101_inb : ∀ (v4 : IVec S16 32) (v1352 : IVec S16 32) (k0_hw101 : k0_chk101 v4 v1352), ∀ a x, ((![v1352, v4] : Fin 2 → IVec S16 32) a x).toNat < S256x32.size a := fun v4 v1352 k0_hw101 => k0_hw101

def k0_chk102 (v1352 : IVec S16 32) (v1354 : IVec S16 32) : Prop :=
  (∀ a x, ((![v1352, v1354] : Fin 2 → IVec S16 32) a x).toNat < S256x64.size a)
theorem k0_idx102_inb : ∀ (v1352 : IVec S16 32) (v1354 : IVec S16 32) (k0_hw102 : k0_chk102 v1352 v1354), ∀ a x, ((![v1352, v1354] : Fin 2 → IVec S16 32) a x).toNat < S256x64.size a := fun v1352 v1354 k0_hw102 => k0_hw102
def k0_off55 (k0_t51 : Fin k0_t51_loop.trips) : Fin 1 → Nat :=
  let c6400_i32_2049 : BitVec 32 := 6400#32
  let c0_i32_1640 : BitVec 32 := 0#32
  let c1_i32_1642 : BitVec 32 := 1#32
  let arg10 : BitVec 32 := Scf.iv c0_i32_1640 c1_i32_1642 k0_t51
  let c16_i32_2048 : BitVec 32 := 16#32
  let v1358 : BitVec 32 := Scalar.muli arg10 c16_i32_2048
  let v1359 : BitVec 32 := Scalar.addi c6400_i32_2049 v1358
  let v1360 : Index := Scalar.indexCast v1359
  ![v1360.toNat]
@[reducible] def k0_t52_loop : Scf.Loop 32 :=
  let c0_i32_1672 : BitVec 32 := 0#32
  let c8_i32_1673 : BitVec 32 := 8#32
  let v1106 : BitVec 32 := Scalar.addi c0_i32_1672 c8_i32_1673
  let c1_i32_1674 : BitVec 32 := 1#32
  ⟨c0_i32_1672, v1106, c1_i32_1674⟩

def k0_chk103 (v4 : IVec S16 32) (v1352 : IVec S16 32) : Prop :=
  (∀ a x, ((![v1352, v4] : Fin 2 → IVec S16 32) a x).toNat < S256x32.size a)
theorem k0_idx103_inb : ∀ (v4 : IVec S16 32) (v1352 : IVec S16 32) (k0_hw103 : k0_chk103 v4 v1352), ∀ a x, ((![v1352, v4] : Fin 2 → IVec S16 32) a x).toNat < S256x32.size a := fun v4 v1352 k0_hw103 => k0_hw103

def k0_chk104 (v1352 : IVec S16 32) (v1354 : IVec S16 32) : Prop :=
  (∀ a x, ((![v1352, v1354] : Fin 2 → IVec S16 32) a x).toNat < S256x64.size a)
theorem k0_idx104_inb : ∀ (v1352 : IVec S16 32) (v1354 : IVec S16 32) (k0_hw104 : k0_chk104 v1352 v1354), ∀ a x, ((![v1352, v1354] : Fin 2 → IVec S16 32) a x).toNat < S256x64.size a := fun v1352 v1354 k0_hw104 => k0_hw104
def k0_off56 (k0_t52 : Fin k0_t52_loop.trips) : Fin 1 → Nat :=
  let c6528_i32_2049 : BitVec 32 := 6528#32
  let c0_i32_1672 : BitVec 32 := 0#32
  let c1_i32_1674 : BitVec 32 := 1#32
  let arg10 : BitVec 32 := Scf.iv c0_i32_1672 c1_i32_1674 k0_t52
  let c16_i32_2048 : BitVec 32 := 16#32
  let v1358 : BitVec 32 := Scalar.muli arg10 c16_i32_2048
  let v1359 : BitVec 32 := Scalar.addi c6528_i32_2049 v1358
  let v1360 : Index := Scalar.indexCast v1359
  ![v1360.toNat]
@[reducible] def k0_t53_loop : Scf.Loop 32 :=
  let c0_i32_1704 : BitVec 32 := 0#32
  let c8_i32_1705 : BitVec 32 := 8#32
  let v1127 : BitVec 32 := Scalar.addi c0_i32_1704 c8_i32_1705
  let c1_i32_1706 : BitVec 32 := 1#32
  ⟨c0_i32_1704, v1127, c1_i32_1706⟩

def k0_chk105 (v4 : IVec S16 32) (v1352 : IVec S16 32) : Prop :=
  (∀ a x, ((![v1352, v4] : Fin 2 → IVec S16 32) a x).toNat < S256x32.size a)
theorem k0_idx105_inb : ∀ (v4 : IVec S16 32) (v1352 : IVec S16 32) (k0_hw105 : k0_chk105 v4 v1352), ∀ a x, ((![v1352, v4] : Fin 2 → IVec S16 32) a x).toNat < S256x32.size a := fun v4 v1352 k0_hw105 => k0_hw105

def k0_chk106 (v1352 : IVec S16 32) (v1354 : IVec S16 32) : Prop :=
  (∀ a x, ((![v1352, v1354] : Fin 2 → IVec S16 32) a x).toNat < S256x64.size a)
theorem k0_idx106_inb : ∀ (v1352 : IVec S16 32) (v1354 : IVec S16 32) (k0_hw106 : k0_chk106 v1352 v1354), ∀ a x, ((![v1352, v1354] : Fin 2 → IVec S16 32) a x).toNat < S256x64.size a := fun v1352 v1354 k0_hw106 => k0_hw106
def k0_off57 (k0_t53 : Fin k0_t53_loop.trips) : Fin 1 → Nat :=
  let c6656_i32_2049 : BitVec 32 := 6656#32
  let c0_i32_1704 : BitVec 32 := 0#32
  let c1_i32_1706 : BitVec 32 := 1#32
  let arg10 : BitVec 32 := Scf.iv c0_i32_1704 c1_i32_1706 k0_t53
  let c16_i32_2048 : BitVec 32 := 16#32
  let v1358 : BitVec 32 := Scalar.muli arg10 c16_i32_2048
  let v1359 : BitVec 32 := Scalar.addi c6656_i32_2049 v1358
  let v1360 : Index := Scalar.indexCast v1359
  ![v1360.toNat]
@[reducible] def k0_t54_loop : Scf.Loop 32 :=
  let c0_i32_1736 : BitVec 32 := 0#32
  let c8_i32_1737 : BitVec 32 := 8#32
  let v1148 : BitVec 32 := Scalar.addi c0_i32_1736 c8_i32_1737
  let c1_i32_1738 : BitVec 32 := 1#32
  ⟨c0_i32_1736, v1148, c1_i32_1738⟩

def k0_chk107 (v4 : IVec S16 32) (v1352 : IVec S16 32) : Prop :=
  (∀ a x, ((![v1352, v4] : Fin 2 → IVec S16 32) a x).toNat < S256x32.size a)
theorem k0_idx107_inb : ∀ (v4 : IVec S16 32) (v1352 : IVec S16 32) (k0_hw107 : k0_chk107 v4 v1352), ∀ a x, ((![v1352, v4] : Fin 2 → IVec S16 32) a x).toNat < S256x32.size a := fun v4 v1352 k0_hw107 => k0_hw107

def k0_chk108 (v1352 : IVec S16 32) (v1354 : IVec S16 32) : Prop :=
  (∀ a x, ((![v1352, v1354] : Fin 2 → IVec S16 32) a x).toNat < S256x64.size a)
theorem k0_idx108_inb : ∀ (v1352 : IVec S16 32) (v1354 : IVec S16 32) (k0_hw108 : k0_chk108 v1352 v1354), ∀ a x, ((![v1352, v1354] : Fin 2 → IVec S16 32) a x).toNat < S256x64.size a := fun v1352 v1354 k0_hw108 => k0_hw108
def k0_off58 (k0_t54 : Fin k0_t54_loop.trips) : Fin 1 → Nat :=
  let c6784_i32_2049 : BitVec 32 := 6784#32
  let c0_i32_1736 : BitVec 32 := 0#32
  let c1_i32_1738 : BitVec 32 := 1#32
  let arg10 : BitVec 32 := Scf.iv c0_i32_1736 c1_i32_1738 k0_t54
  let c16_i32_2048 : BitVec 32 := 16#32
  let v1358 : BitVec 32 := Scalar.muli arg10 c16_i32_2048
  let v1359 : BitVec 32 := Scalar.addi c6784_i32_2049 v1358
  let v1360 : Index := Scalar.indexCast v1359
  ![v1360.toNat]
@[reducible] def k0_t55_loop : Scf.Loop 32 :=
  let c0_i32_1768 : BitVec 32 := 0#32
  let c8_i32_1769 : BitVec 32 := 8#32
  let v1169 : BitVec 32 := Scalar.addi c0_i32_1768 c8_i32_1769
  let c1_i32_1770 : BitVec 32 := 1#32
  ⟨c0_i32_1768, v1169, c1_i32_1770⟩

def k0_chk109 (v4 : IVec S16 32) (v1352 : IVec S16 32) : Prop :=
  (∀ a x, ((![v1352, v4] : Fin 2 → IVec S16 32) a x).toNat < S256x32.size a)
theorem k0_idx109_inb : ∀ (v4 : IVec S16 32) (v1352 : IVec S16 32) (k0_hw109 : k0_chk109 v4 v1352), ∀ a x, ((![v1352, v4] : Fin 2 → IVec S16 32) a x).toNat < S256x32.size a := fun v4 v1352 k0_hw109 => k0_hw109

def k0_chk110 (v1352 : IVec S16 32) (v1354 : IVec S16 32) : Prop :=
  (∀ a x, ((![v1352, v1354] : Fin 2 → IVec S16 32) a x).toNat < S256x64.size a)
theorem k0_idx110_inb : ∀ (v1352 : IVec S16 32) (v1354 : IVec S16 32) (k0_hw110 : k0_chk110 v1352 v1354), ∀ a x, ((![v1352, v1354] : Fin 2 → IVec S16 32) a x).toNat < S256x64.size a := fun v1352 v1354 k0_hw110 => k0_hw110
def k0_off59 (k0_t55 : Fin k0_t55_loop.trips) : Fin 1 → Nat :=
  let c6912_i32_2049 : BitVec 32 := 6912#32
  let c0_i32_1768 : BitVec 32 := 0#32
  let c1_i32_1770 : BitVec 32 := 1#32
  let arg10 : BitVec 32 := Scf.iv c0_i32_1768 c1_i32_1770 k0_t55
  let c16_i32_2048 : BitVec 32 := 16#32
  let v1358 : BitVec 32 := Scalar.muli arg10 c16_i32_2048
  let v1359 : BitVec 32 := Scalar.addi c6912_i32_2049 v1358
  let v1360 : Index := Scalar.indexCast v1359
  ![v1360.toNat]
@[reducible] def k0_t56_loop : Scf.Loop 32 :=
  let c0_i32_1800 : BitVec 32 := 0#32
  let c8_i32_1801 : BitVec 32 := 8#32
  let v1190 : BitVec 32 := Scalar.addi c0_i32_1800 c8_i32_1801
  let c1_i32_1802 : BitVec 32 := 1#32
  ⟨c0_i32_1800, v1190, c1_i32_1802⟩

def k0_chk111 (v4 : IVec S16 32) (v1352 : IVec S16 32) : Prop :=
  (∀ a x, ((![v1352, v4] : Fin 2 → IVec S16 32) a x).toNat < S256x32.size a)
theorem k0_idx111_inb : ∀ (v4 : IVec S16 32) (v1352 : IVec S16 32) (k0_hw111 : k0_chk111 v4 v1352), ∀ a x, ((![v1352, v4] : Fin 2 → IVec S16 32) a x).toNat < S256x32.size a := fun v4 v1352 k0_hw111 => k0_hw111

def k0_chk112 (v1352 : IVec S16 32) (v1354 : IVec S16 32) : Prop :=
  (∀ a x, ((![v1352, v1354] : Fin 2 → IVec S16 32) a x).toNat < S256x64.size a)
theorem k0_idx112_inb : ∀ (v1352 : IVec S16 32) (v1354 : IVec S16 32) (k0_hw112 : k0_chk112 v1352 v1354), ∀ a x, ((![v1352, v1354] : Fin 2 → IVec S16 32) a x).toNat < S256x64.size a := fun v1352 v1354 k0_hw112 => k0_hw112
def k0_off60 (k0_t56 : Fin k0_t56_loop.trips) : Fin 1 → Nat :=
  let c7040_i32_2049 : BitVec 32 := 7040#32
  let c0_i32_1800 : BitVec 32 := 0#32
  let c1_i32_1802 : BitVec 32 := 1#32
  let arg10 : BitVec 32 := Scf.iv c0_i32_1800 c1_i32_1802 k0_t56
  let c16_i32_2048 : BitVec 32 := 16#32
  let v1358 : BitVec 32 := Scalar.muli arg10 c16_i32_2048
  let v1359 : BitVec 32 := Scalar.addi c7040_i32_2049 v1358
  let v1360 : Index := Scalar.indexCast v1359
  ![v1360.toNat]
@[reducible] def k0_t57_loop : Scf.Loop 32 :=
  let c0_i32_1832 : BitVec 32 := 0#32
  let c8_i32_1833 : BitVec 32 := 8#32
  let v1211 : BitVec 32 := Scalar.addi c0_i32_1832 c8_i32_1833
  let c1_i32_1834 : BitVec 32 := 1#32
  ⟨c0_i32_1832, v1211, c1_i32_1834⟩

def k0_chk113 (v4 : IVec S16 32) (v1352 : IVec S16 32) : Prop :=
  (∀ a x, ((![v1352, v4] : Fin 2 → IVec S16 32) a x).toNat < S256x32.size a)
theorem k0_idx113_inb : ∀ (v4 : IVec S16 32) (v1352 : IVec S16 32) (k0_hw113 : k0_chk113 v4 v1352), ∀ a x, ((![v1352, v4] : Fin 2 → IVec S16 32) a x).toNat < S256x32.size a := fun v4 v1352 k0_hw113 => k0_hw113

def k0_chk114 (v1352 : IVec S16 32) (v1354 : IVec S16 32) : Prop :=
  (∀ a x, ((![v1352, v1354] : Fin 2 → IVec S16 32) a x).toNat < S256x64.size a)
theorem k0_idx114_inb : ∀ (v1352 : IVec S16 32) (v1354 : IVec S16 32) (k0_hw114 : k0_chk114 v1352 v1354), ∀ a x, ((![v1352, v1354] : Fin 2 → IVec S16 32) a x).toNat < S256x64.size a := fun v1352 v1354 k0_hw114 => k0_hw114
def k0_off61 (k0_t57 : Fin k0_t57_loop.trips) : Fin 1 → Nat :=
  let c7168_i32_2049 : BitVec 32 := 7168#32
  let c0_i32_1832 : BitVec 32 := 0#32
  let c1_i32_1834 : BitVec 32 := 1#32
  let arg10 : BitVec 32 := Scf.iv c0_i32_1832 c1_i32_1834 k0_t57
  let c16_i32_2048 : BitVec 32 := 16#32
  let v1358 : BitVec 32 := Scalar.muli arg10 c16_i32_2048
  let v1359 : BitVec 32 := Scalar.addi c7168_i32_2049 v1358
  let v1360 : Index := Scalar.indexCast v1359
  ![v1360.toNat]
@[reducible] def k0_t58_loop : Scf.Loop 32 :=
  let c0_i32_1864 : BitVec 32 := 0#32
  let c8_i32_1865 : BitVec 32 := 8#32
  let v1232 : BitVec 32 := Scalar.addi c0_i32_1864 c8_i32_1865
  let c1_i32_1866 : BitVec 32 := 1#32
  ⟨c0_i32_1864, v1232, c1_i32_1866⟩

def k0_chk115 (v4 : IVec S16 32) (v1352 : IVec S16 32) : Prop :=
  (∀ a x, ((![v1352, v4] : Fin 2 → IVec S16 32) a x).toNat < S256x32.size a)
theorem k0_idx115_inb : ∀ (v4 : IVec S16 32) (v1352 : IVec S16 32) (k0_hw115 : k0_chk115 v4 v1352), ∀ a x, ((![v1352, v4] : Fin 2 → IVec S16 32) a x).toNat < S256x32.size a := fun v4 v1352 k0_hw115 => k0_hw115

def k0_chk116 (v1352 : IVec S16 32) (v1354 : IVec S16 32) : Prop :=
  (∀ a x, ((![v1352, v1354] : Fin 2 → IVec S16 32) a x).toNat < S256x64.size a)
theorem k0_idx116_inb : ∀ (v1352 : IVec S16 32) (v1354 : IVec S16 32) (k0_hw116 : k0_chk116 v1352 v1354), ∀ a x, ((![v1352, v1354] : Fin 2 → IVec S16 32) a x).toNat < S256x64.size a := fun v1352 v1354 k0_hw116 => k0_hw116
def k0_off62 (k0_t58 : Fin k0_t58_loop.trips) : Fin 1 → Nat :=
  let c7296_i32_2049 : BitVec 32 := 7296#32
  let c0_i32_1864 : BitVec 32 := 0#32
  let c1_i32_1866 : BitVec 32 := 1#32
  let arg10 : BitVec 32 := Scf.iv c0_i32_1864 c1_i32_1866 k0_t58
  let c16_i32_2048 : BitVec 32 := 16#32
  let v1358 : BitVec 32 := Scalar.muli arg10 c16_i32_2048
  let v1359 : BitVec 32 := Scalar.addi c7296_i32_2049 v1358
  let v1360 : Index := Scalar.indexCast v1359
  ![v1360.toNat]
@[reducible] def k0_t59_loop : Scf.Loop 32 :=
  let c0_i32_1896 : BitVec 32 := 0#32
  let c8_i32_1897 : BitVec 32 := 8#32
  let v1253 : BitVec 32 := Scalar.addi c0_i32_1896 c8_i32_1897
  let c1_i32_1898 : BitVec 32 := 1#32
  ⟨c0_i32_1896, v1253, c1_i32_1898⟩

def k0_chk117 (v4 : IVec S16 32) (v1352 : IVec S16 32) : Prop :=
  (∀ a x, ((![v1352, v4] : Fin 2 → IVec S16 32) a x).toNat < S256x32.size a)
theorem k0_idx117_inb : ∀ (v4 : IVec S16 32) (v1352 : IVec S16 32) (k0_hw117 : k0_chk117 v4 v1352), ∀ a x, ((![v1352, v4] : Fin 2 → IVec S16 32) a x).toNat < S256x32.size a := fun v4 v1352 k0_hw117 => k0_hw117

def k0_chk118 (v1352 : IVec S16 32) (v1354 : IVec S16 32) : Prop :=
  (∀ a x, ((![v1352, v1354] : Fin 2 → IVec S16 32) a x).toNat < S256x64.size a)
theorem k0_idx118_inb : ∀ (v1352 : IVec S16 32) (v1354 : IVec S16 32) (k0_hw118 : k0_chk118 v1352 v1354), ∀ a x, ((![v1352, v1354] : Fin 2 → IVec S16 32) a x).toNat < S256x64.size a := fun v1352 v1354 k0_hw118 => k0_hw118
def k0_off63 (k0_t59 : Fin k0_t59_loop.trips) : Fin 1 → Nat :=
  let c7424_i32_2049 : BitVec 32 := 7424#32
  let c0_i32_1896 : BitVec 32 := 0#32
  let c1_i32_1898 : BitVec 32 := 1#32
  let arg10 : BitVec 32 := Scf.iv c0_i32_1896 c1_i32_1898 k0_t59
  let c16_i32_2048 : BitVec 32 := 16#32
  let v1358 : BitVec 32 := Scalar.muli arg10 c16_i32_2048
  let v1359 : BitVec 32 := Scalar.addi c7424_i32_2049 v1358
  let v1360 : Index := Scalar.indexCast v1359
  ![v1360.toNat]
@[reducible] def k0_t60_loop : Scf.Loop 32 :=
  let c0_i32_1928 : BitVec 32 := 0#32
  let c8_i32_1929 : BitVec 32 := 8#32
  let v1274 : BitVec 32 := Scalar.addi c0_i32_1928 c8_i32_1929
  let c1_i32_1930 : BitVec 32 := 1#32
  ⟨c0_i32_1928, v1274, c1_i32_1930⟩

def k0_chk119 (v4 : IVec S16 32) (v1352 : IVec S16 32) : Prop :=
  (∀ a x, ((![v1352, v4] : Fin 2 → IVec S16 32) a x).toNat < S256x32.size a)
theorem k0_idx119_inb : ∀ (v4 : IVec S16 32) (v1352 : IVec S16 32) (k0_hw119 : k0_chk119 v4 v1352), ∀ a x, ((![v1352, v4] : Fin 2 → IVec S16 32) a x).toNat < S256x32.size a := fun v4 v1352 k0_hw119 => k0_hw119

def k0_chk120 (v1352 : IVec S16 32) (v1354 : IVec S16 32) : Prop :=
  (∀ a x, ((![v1352, v1354] : Fin 2 → IVec S16 32) a x).toNat < S256x64.size a)
theorem k0_idx120_inb : ∀ (v1352 : IVec S16 32) (v1354 : IVec S16 32) (k0_hw120 : k0_chk120 v1352 v1354), ∀ a x, ((![v1352, v1354] : Fin 2 → IVec S16 32) a x).toNat < S256x64.size a := fun v1352 v1354 k0_hw120 => k0_hw120
def k0_off64 (k0_t60 : Fin k0_t60_loop.trips) : Fin 1 → Nat :=
  let c7552_i32_2049 : BitVec 32 := 7552#32
  let c0_i32_1928 : BitVec 32 := 0#32
  let c1_i32_1930 : BitVec 32 := 1#32
  let arg10 : BitVec 32 := Scf.iv c0_i32_1928 c1_i32_1930 k0_t60
  let c16_i32_2048 : BitVec 32 := 16#32
  let v1358 : BitVec 32 := Scalar.muli arg10 c16_i32_2048
  let v1359 : BitVec 32 := Scalar.addi c7552_i32_2049 v1358
  let v1360 : Index := Scalar.indexCast v1359
  ![v1360.toNat]
@[reducible] def k0_t61_loop : Scf.Loop 32 :=
  let c0_i32_1960 : BitVec 32 := 0#32
  let c8_i32_1961 : BitVec 32 := 8#32
  let v1295 : BitVec 32 := Scalar.addi c0_i32_1960 c8_i32_1961
  let c1_i32_1962 : BitVec 32 := 1#32
  ⟨c0_i32_1960, v1295, c1_i32_1962⟩

def k0_chk121 (v4 : IVec S16 32) (v1352 : IVec S16 32) : Prop :=
  (∀ a x, ((![v1352, v4] : Fin 2 → IVec S16 32) a x).toNat < S256x32.size a)
theorem k0_idx121_inb : ∀ (v4 : IVec S16 32) (v1352 : IVec S16 32) (k0_hw121 : k0_chk121 v4 v1352), ∀ a x, ((![v1352, v4] : Fin 2 → IVec S16 32) a x).toNat < S256x32.size a := fun v4 v1352 k0_hw121 => k0_hw121

def k0_chk122 (v1352 : IVec S16 32) (v1354 : IVec S16 32) : Prop :=
  (∀ a x, ((![v1352, v1354] : Fin 2 → IVec S16 32) a x).toNat < S256x64.size a)
theorem k0_idx122_inb : ∀ (v1352 : IVec S16 32) (v1354 : IVec S16 32) (k0_hw122 : k0_chk122 v1352 v1354), ∀ a x, ((![v1352, v1354] : Fin 2 → IVec S16 32) a x).toNat < S256x64.size a := fun v1352 v1354 k0_hw122 => k0_hw122
def k0_off65 (k0_t61 : Fin k0_t61_loop.trips) : Fin 1 → Nat :=
  let c7680_i32_2049 : BitVec 32 := 7680#32
  let c0_i32_1960 : BitVec 32 := 0#32
  let c1_i32_1962 : BitVec 32 := 1#32
  let arg10 : BitVec 32 := Scf.iv c0_i32_1960 c1_i32_1962 k0_t61
  let c16_i32_2048 : BitVec 32 := 16#32
  let v1358 : BitVec 32 := Scalar.muli arg10 c16_i32_2048
  let v1359 : BitVec 32 := Scalar.addi c7680_i32_2049 v1358
  let v1360 : Index := Scalar.indexCast v1359
  ![v1360.toNat]
@[reducible] def k0_t62_loop : Scf.Loop 32 :=
  let c0_i32_1992 : BitVec 32 := 0#32
  let c8_i32_1993 : BitVec 32 := 8#32
  let v1316 : BitVec 32 := Scalar.addi c0_i32_1992 c8_i32_1993
  let c1_i32_1994 : BitVec 32 := 1#32
  ⟨c0_i32_1992, v1316, c1_i32_1994⟩

def k0_chk123 (v4 : IVec S16 32) (v1352 : IVec S16 32) : Prop :=
  (∀ a x, ((![v1352, v4] : Fin 2 → IVec S16 32) a x).toNat < S256x32.size a)
theorem k0_idx123_inb : ∀ (v4 : IVec S16 32) (v1352 : IVec S16 32) (k0_hw123 : k0_chk123 v4 v1352), ∀ a x, ((![v1352, v4] : Fin 2 → IVec S16 32) a x).toNat < S256x32.size a := fun v4 v1352 k0_hw123 => k0_hw123

def k0_chk124 (v1352 : IVec S16 32) (v1354 : IVec S16 32) : Prop :=
  (∀ a x, ((![v1352, v1354] : Fin 2 → IVec S16 32) a x).toNat < S256x64.size a)
theorem k0_idx124_inb : ∀ (v1352 : IVec S16 32) (v1354 : IVec S16 32) (k0_hw124 : k0_chk124 v1352 v1354), ∀ a x, ((![v1352, v1354] : Fin 2 → IVec S16 32) a x).toNat < S256x64.size a := fun v1352 v1354 k0_hw124 => k0_hw124
def k0_off66 (k0_t62 : Fin k0_t62_loop.trips) : Fin 1 → Nat :=
  let c7808_i32_2049 : BitVec 32 := 7808#32
  let c0_i32_1992 : BitVec 32 := 0#32
  let c1_i32_1994 : BitVec 32 := 1#32
  let arg10 : BitVec 32 := Scf.iv c0_i32_1992 c1_i32_1994 k0_t62
  let c16_i32_2048 : BitVec 32 := 16#32
  let v1358 : BitVec 32 := Scalar.muli arg10 c16_i32_2048
  let v1359 : BitVec 32 := Scalar.addi c7808_i32_2049 v1358
  let v1360 : Index := Scalar.indexCast v1359
  ![v1360.toNat]
@[reducible] def k0_t63_loop : Scf.Loop 32 :=
  let c0_i32_2024 : BitVec 32 := 0#32
  let c8_i32_2025 : BitVec 32 := 8#32
  let v1337 : BitVec 32 := Scalar.addi c0_i32_2024 c8_i32_2025
  let c1_i32_2026 : BitVec 32 := 1#32
  ⟨c0_i32_2024, v1337, c1_i32_2026⟩

def k0_chk125 (v4 : IVec S16 32) (v1352 : IVec S16 32) : Prop :=
  (∀ a x, ((![v1352, v4] : Fin 2 → IVec S16 32) a x).toNat < S256x32.size a)
theorem k0_idx125_inb : ∀ (v4 : IVec S16 32) (v1352 : IVec S16 32) (k0_hw125 : k0_chk125 v4 v1352), ∀ a x, ((![v1352, v4] : Fin 2 → IVec S16 32) a x).toNat < S256x32.size a := fun v4 v1352 k0_hw125 => k0_hw125

def k0_chk126 (v1352 : IVec S16 32) (v1354 : IVec S16 32) : Prop :=
  (∀ a x, ((![v1352, v1354] : Fin 2 → IVec S16 32) a x).toNat < S256x64.size a)
theorem k0_idx126_inb : ∀ (v1352 : IVec S16 32) (v1354 : IVec S16 32) (k0_hw126 : k0_chk126 v1352 v1354), ∀ a x, ((![v1352, v1354] : Fin 2 → IVec S16 32) a x).toNat < S256x64.size a := fun v1352 v1354 k0_hw126 => k0_hw126
def k0_off67 (k0_t63 : Fin k0_t63_loop.trips) : Fin 1 → Nat :=
  let c7936_i32_2049 : BitVec 32 := 7936#32
  let c0_i32_2024 : BitVec 32 := 0#32
  let c1_i32_2026 : BitVec 32 := 1#32
  let arg10 : BitVec 32 := Scf.iv c0_i32_2024 c1_i32_2026 k0_t63
  let c16_i32_2048 : BitVec 32 := 16#32
  let v1358 : BitVec 32 := Scalar.muli arg10 c16_i32_2048
  let v1359 : BitVec 32 := Scalar.addi c7936_i32_2049 v1358
  let v1360 : Index := Scalar.indexCast v1359
  ![v1360.toNat]
@[reducible] def k0_t64_loop : Scf.Loop 32 :=
  let c0_i32_2043 : BitVec 32 := 0#32
  let c8_i32_2044 : BitVec 32 := 8#32
  let v1348 : BitVec 32 := Scalar.addi c0_i32_2043 c8_i32_2044
  let c1_i32_2045 : BitVec 32 := 1#32
  ⟨c0_i32_2043, v1348, c1_i32_2045⟩

def k0_chk127 (v4 : IVec S16 32) (v1352 : IVec S16 32) : Prop :=
  (∀ a x, ((![v1352, v4] : Fin 2 → IVec S16 32) a x).toNat < S256x32.size a)
theorem k0_idx127_inb : ∀ (v4 : IVec S16 32) (v1352 : IVec S16 32) (k0_hw127 : k0_chk127 v4 v1352), ∀ a x, ((![v1352, v4] : Fin 2 → IVec S16 32) a x).toNat < S256x32.size a := fun v4 v1352 k0_hw127 => k0_hw127

def k0_chk128 (v1352 : IVec S16 32) (v1354 : IVec S16 32) : Prop :=
  (∀ a x, ((![v1352, v1354] : Fin 2 → IVec S16 32) a x).toNat < S256x64.size a)
theorem k0_idx128_inb : ∀ (v1352 : IVec S16 32) (v1354 : IVec S16 32) (k0_hw128 : k0_chk128 v1352 v1354), ∀ a x, ((![v1352, v1354] : Fin 2 → IVec S16 32) a x).toNat < S256x64.size a := fun v1352 v1354 k0_hw128 => k0_hw128
def k0_off68 (k0_t64 : Fin k0_t64_loop.trips) : Fin 1 → Nat :=
  let c8064_i32_2049 : BitVec 32 := 8064#32
  let c0_i32_2043 : BitVec 32 := 0#32
  let c1_i32_2045 : BitVec 32 := 1#32
  let arg10 : BitVec 32 := Scf.iv c0_i32_2043 c1_i32_2045 k0_t64
  let c16_i32_2048 : BitVec 32 := 16#32
  let v1358 : BitVec 32 := Scalar.muli arg10 c16_i32_2048
  let v1359 : BitVec 32 := Scalar.addi c8064_i32_2049 v1358
  let v1360 : Index := Scalar.indexCast v1359
  ![v1360.toNat]
def k0_off69 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x32 : Shape := ⟨2, ![262144, 32]⟩
abbrev S262144x64 : Shape := ⟨2, ![262144, 64]⟩
abbrev S262144x1 : Shape := ⟨2, ![262144, 1]⟩
abbrev S262144 : Shape := ⟨1, ![262144]⟩
abbrev S_ : Shape := ⟨0, ![]⟩
abbrev S262144x2 : Shape := ⟨2, ![262144, 2]⟩

abbrev nBuf : Space → Nat
  | .hbm => 31
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S262144x64, .f32⟩
  | .hbm, ⟨2, _⟩ => ⟨S262144x1, .f32⟩
  | .hbm, ⟨3, _⟩ => ⟨S262144, .f32⟩
  | .hbm, ⟨4, _⟩ => ⟨S262144, .i32⟩
  | .hbm, ⟨5, _⟩ => ⟨S_, .f32⟩
  | .hbm, ⟨6, _⟩ => ⟨S262144x64, .f32⟩
  | .hbm, ⟨7, _⟩ => ⟨S262144, .i32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x1, .i32⟩
  | .hbm, ⟨24, _⟩ => ⟨S262144x2, .i32⟩
  | .hbm, ⟨25, _⟩ => ⟨S_, .f32⟩
  | .hbm, ⟨26, _⟩ => ⟨S262144, .f32⟩
  | .hbm, ⟨27, _⟩ => ⟨S262144x64, .f32⟩
  | .hbm, ⟨28, _⟩ => ⟨S262144x64, .f32⟩
  | .hbm, ⟨29, _⟩ => ⟨S_, .f32⟩
  | .hbm, ⟨30, _⟩ => ⟨S262144, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Text.lean ====
/-
  The kernel's printed text, as the sequence of its steps. The body unrolls 64 chunks of 128 rows each, and its text comes in
  windows of sixty statements. Here a step is one of five shapes at a chunk `c`: start or wait for the copy of chunk `c` of `z` or of
  `a` into slot `c % 2` of its scratch, or gather and scale the 128 rows of chunk `c`. Each printed window is a short list of steps
  (by definition), so the whole body is one list in the order a reader would write it, ending in the copy of the result.
-/
module

public import proofs.«01_k».proof.Defs
public import proofs.«01_k».proof.Proof.Gen.KernelIdeal
public import Idealize.ShloMosaic.Lib.SparseCore.Quiescent
public import Idealize.ShloMosaic.Lib.Tactic

@[expose] public section

noncomputable section

namespace Cert.Proof.Text

open Cert.KernelIdeal Cert.KernelIdeal.Gen
open Idealize.ShloMosaic Idealize.SL.Sem

variable {F : FTy → Type} [FloatOps F]

/-! ## The arrays and scratches the body is run on -/

abbrev zM : Memref sig .scVector .hbm S262144x32 .f32 := Memref.whole main_arg0_scv
abbrev aM : Memref sig .scVector .hbm S262144x64 .f32 := Memref.whole main_arg1_scv
abbrev oM : Memref sig .scVector .hbm S262144 .f32 := Memref.whole main_v0_scv
abbrev zB : Memref sig .scVector .vmem S256x32 .f32 := Memref.whole cc0_scratch0
abbrev aB : Memref sig .scVector .vmem S256x64 .f32 := Memref.whole cc0_scratch1
abbrev oB : Memref sig .scVector .vmem S8192 .f32 := Memref.whole cc0_scratch2

/-! ## The steps -/

/-- The offset of chunk `c` of tile `i` in the rows of `z` (and of `a`), as the body computes it. -/
abbrev chOff (i : grid0.Coords) (c : Fin 64) : Fin 2 → Nat := k0_off4 i (BitVec.ofNat 32 (128 * c.val))

/-- In closed form: tile `i` has the rows from `16384 (i 1) + 8192 (i 0)`. -/
theorem chOff_eq (i : grid0.Coords) (c : Fin 64) : chOff i c = ![16384 * (i 1).val + 8192 * (i 0).val + 128 * c.val, 0] := by
  rcases c with ⟨_ | c, hc⟩
  · exact k0_off1_eq i 0
  · have e := k0_off4_eq i ⟨c, by omega⟩
    have h1 : 128 * (c + 1) = 128 + 128 * c := by omega
    show k0_off4 i (BitVec.ofNat 32 (128 * (c + 1))) = _
    rw [h1, e]
    congr 1; show 16384 * (i 1).val + 8192 * (i 0).val + 128 * c + 128 = 16384 * (i 1).val + 8192 * (i 0).val + (128 + 128 * c); omega

theorem chOff_inbZ (i : grid0.Coords) (c : Fin 64) : ∀ a, chOff i c a + S128x32.size a ≤ S262144x32.size a := by
  have h1 : (i 1).val < 16 := (i 1).isLt
  have h0 : (i 0).val < 2 := (i 0).isLt
  have hc := c.isLt
  rw [chOff_eq]; intro a
  match a with
  | 0 => show 16384 * (i 1).val + 8192 * (i 0).val + 128 * c.val + 128 ≤ 262144; omega
  | 1 => show 0 + 32 ≤ 32; omega

theorem chOff_inbA (i : grid0.Coords) (c : Fin 64) : ∀ a, chOff i c a + S128x64.size a ≤ S262144x64.size a := by
  have h1 : (i 1).val < 16 := (i 1).isLt
  have h0 : (i 0).val < 2 := (i 0).isLt
  have hc := c.isLt
  rw [chOff_eq]; intro a
  match a with
  | 0 => show 16384 * (i 1).val + 8192 * (i 0).val + 128 * c.val + 128 ≤ 262144; omega
  | 1 => show 0 + 64 ≤ 64; omega

/-- Chunk `c` of tile `i` in `z` and in `a`. -/
abbrev zSrc (i : grid0.Coords) (c : Fin 64) : Memref sig .scVector .hbm S128x32 .f32 :=
  zM.slice (Rect.unit (s := S262144x32) (chOff i c) S128x32.size (chOff_inbZ i c)) (fun _ => rfl)
abbrev aSrc (i : grid0.Coords) (c : Fin 64) : Memref sig .scVector .hbm S128x64 .f32 :=
  aM.slice (Rect.unit (s := S262144x64) (chOff i c) S128x64.size (chOff_inbA i c)) (fun _ => rfl)

/-- The slot of chunk `c` begins at row `128 (c % 2)` of a scratch. -/
abbrev slOff (c : Fin 64) : Fin 2 → Nat := ![128 * (c.val % 2), 0]
theorem slOff_inbZ (c : Fin 64) : ∀ a, slOff c a + S128x32.size a ≤ S256x32.size a := by
  have := Nat.mod_lt c.val (show 0 < 2 by decide)
  intro a
  match a with
  | 0 => show 128 * (c.val % 2) + 128 ≤ 256; omega
  | 1 => show 0 + 32 ≤ 32; omega
theorem slOff_inbA (c : Fin 64) : ∀ a, slOff c a + S128x64.size a ≤ S256x64.size a := by
  have := Nat.mod_lt c.val (show 0 < 2 by decide)
  intro a
  match a with
  | 0 => show 128 * (c.val % 2) + 128 ≤ 256; omega
  | 1 => show 0 + 64 ≤ 64; omega

/-- The slot of chunk `c` in each scratch. -/
abbrev zDst (c : Fin 64) : Memref sig .scVector .vmem S128x32 .f32 :=
  zB.slice (Rect.unit (s := S256x32) (slOff c) S128x32.size (slOff_inbZ c)) (fun _ => rfl)
abbrev aDst (c : Fin 64) : Memref sig .scVector .vmem S128x64 .f32 :=
  aB.slice (Rect.unit (s := S256x64) (slOff c) S128x64.size (slOff_inbA c)) (fun _ => rfl)

/-- A trip of the gather loop. -/
abbrev Trip : Type := Fin k0_t1_loop.trips

/-- Where trip `t` of chunk `c` writes in the tile's result. -/
abbrev oOff (c : Fin 64) (t : Trip) : Fin 1 → Nat :=
  ![(Scalar.indexCast (Scalar.addi (BitVec.ofNat 32 (128 * c.val)) (Scalar.muli (Scf.iv 0#32 1#32 t) 16#32))).toNat]

theorem oOff_eq : ∀ (c : Fin 64) (t : Trip), oOff c t = ![128 * c.val + 16 * t.val] := by decide +kernel
theorem oOff_inb : ∀ (c : Fin 64) (t : Trip), ∀ a, oOff c t a + S16.size a ≤ S8192.size a := by decide +kernel

/-- The rows of the scratch that trip `t` of chunk `c` reads: 16 consecutive rows of the chunk's slot. -/
abbrev rowsV (c : Fin 64) (t : Trip) : IVec S16 32 :=
  addi (broadcast S16 (Scalar.addi (BitVec.ofNat 32 (128 * (c.val % 2))) (Scalar.muli (Scf.iv 0#32 1#32 t) 16#32)))
    (iota .scVector S16 32 [0] iota_S16_d0_w32_scVector)
/-- The column of `z` that holds the class. -/
abbrev colV : IVec S16 32 := broadcast S16 8#32

/-- A tile's programs. -/
abbrev TP (F : FTy → Type) (i : grid0.Coords) (α : Type) : Type 1 :=
  Prog (TpuEff nD τ sig (Elt F) Λ₀ (.scVector ((i 0).castLE hcore0) ((i 1).castLE hsub0))) α

/-- Trip `t` of chunk `c`: read the 16 classes, read the 16 selected entries of `a`, scale, store. -/
def trip (i : grid0.Coords) (c : Fin 64) (t : Trip) : TP F i PUnit := do
  have hw1 : k0_chk1 colV (rowsV c t) := (← Prog.lift (TpuEff.assume (k0_chk1 colV (rowsV c t)) (k0_chk1.dec colV (rowsV c t)))).down
  let zv : Vec F S16 .f32 ← SparseCore.vectorLoadIdx zB ![rowsV c t, colV] (k0_idx1_inb colV (rowsV c t) hw1) (View.loads_vmem h_S256x32)
  have ix : IVec S16 32 := fptosi 32 zv
  have hw2 : k0_chk2 (rowsV c t) ix := (← Prog.lift (TpuEff.assume (k0_chk2 (rowsV c t) ix) (k0_chk2.dec (rowsV c t) ix))).down
  let av : Vec F S16 .f32 ← SparseCore.vectorLoadIdx aB ![rowsV c t, ix] (k0_idx2_inb (rowsV c t) ix hw2) (View.loads_vmem h_S256x64)
  have r : FVec F S16 .f32 := mulf av (broadcast S16 (Scalar.ofBits .f32 0x3F7FBE77#32))
  let _old : Vec F S16 .f32 ← Prog.lift (.load oB (Rect.unit (s := S8192) (oOff c t) S16.size (oOff_inb c t)).toLoadRect (View.loadsAt_vmem h_S16))
  Prog.lift (.store oB (Rect.unit (s := S8192) (oOff c t) S16.size (oOff_inb c t)) r Finset.univ (View.stores_vmem_bits_univ h_S16 rfl) (.inl rfl))
  pure ⟨⟩

/-- The five shapes of a step, each at a chunk. -/
inductive Step
  | sz (c : Fin 64) | sa (c : Fin 64) | wz (c : Fin 64) | wa (c : Fin 64) | lp (c : Fin 64)
  deriving DecidableEq

/-- A step as a program of the tile. -/
def exec (i : grid0.Coords) : Step → TP F i PUnit
  | .sz c => Prog.lift (.enqueueDma (zSrc i c) (.here (zDst c)) (.dma cc0_scratch3.sem) (View.wordExact_bits rfl) (View.wordExact_bits rfl) ⟨Or.inl rfl, trivial⟩)
  | .sa c => Prog.lift (.enqueueDma (aSrc i c) (.here (aDst c)) (.dma cc0_scratch4.sem) (View.wordExact_bits rfl) (View.wordExact_bits rfl) ⟨Or.inl rfl, trivial⟩)
  | .wz c => Prog.lift (.waitDma2 cc0_scratch3.sem (zSrc i c) (zDst c) (View.wordExact_bits rfl) (View.wordExact_bits rfl))
  | .wa c => Prog.lift (.waitDma2 cc0_scratch4.sem (aSrc i c) (aDst c) (View.wordExact_bits rfl) (View.wordExact_bits rfl))
  | .lp c => Scf.Loop.for k0_t1_loop k0_t1_ok ⟨⟩ fun t _ => trip i c t

/-- The steps of a list in turn, then the program `p`. -/
def seq (i : grid0.Coords) {α : Type} : List Step → TP F i α → TP F i α
  | [], p => p
  | s :: l, p => exec i s >>= fun _ => seq i l p

theorem seq_bind (i : grid0.Coords) {α β : Type} (l : List Step) (p : TP F i α) (k : α → TP F i β) :
    (seq i l p >>= k) = seq i l (p >>= k) := by
  induction l with
  | nil => rfl
  | cons s l ih => simp only [seq, bind_assoc, ih]

theorem seq_seq (i : grid0.Coords) {α : Type} (l l' : List Step) (p : TP F i α) :
    seq i l (seq i l' p) = seq i (l ++ l') p := by
  induction l with
  | nil => rfl
  | cons s l ih => simp only [List.cons_append, seq, ih]

open Step

/-! ## The printed windows -/

section Windows
variable (i : grid0.Coords) (v2 : BitVec 32)

/-- The lane numbers, as the body holds them. -/
abbrev laneV : IVec S16 32 := iota .scVector S16 32 [0] iota_S16_d0_w32_scVector
/-- The first row of tile `i`, as the body computes it. -/
abbrev baseW : BitVec 32 := Scalar.muli (Scalar.addi (Scalar.muli (BitVec.ofNat 32 (i 1).val) 2#32) (BitVec.ofNat 32 (i 0).val)) 8192#32

theorem win1 : k0_part1 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 = seq i [sz 0, sa 0, wz 0] (pure ⟨baseW i, laneV, colV⟩) := rfl
theorem win2 : k0_part2 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 0, sz 1, sa 1, lp 0, wz 1] (pure PUnit.unit) := rfl
theorem win3 : k0_part3 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 1, sz 2, sa 2, lp 1, wz 2, wa 2] (pure PUnit.unit) := rfl
theorem win4 : k0_part4 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 3, sa 3, lp 2, wz 3, wa 3] (pure 512#32) := rfl
theorem win5 : k0_part5 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV 512#32 = seq i [sz 4, sa 4, lp 3, wz 4, wa 4] (pure PUnit.unit) := rfl
theorem win6 : k0_part6 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 5, sa 5, lp 4, wz 5, wa 5] (pure PUnit.unit) := rfl
theorem win7 : k0_part7 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 6, sa 6, lp 5, wz 6, wa 6] (pure PUnit.unit) := rfl
theorem win8 : k0_part8 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 7, sa 7, lp 6, wz 7, wa 7] (pure PUnit.unit) := rfl
theorem win9 : k0_part9 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 8, sa 8, lp 7, wz 8, wa 8] (pure PUnit.unit) := rfl
theorem win10 : k0_part10 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 9, sa 9, lp 8, wz 9, wa 9] (pure PUnit.unit) := rfl
theorem win11 : k0_part11 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 10, sa 10, lp 9, wz 10, wa 10] (pure PUnit.unit) := rfl
theorem win12 : k0_part12 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 11, sa 11, lp 10, wz 11, wa 11] (pure PUnit.unit) := rfl
theorem win13 : k0_part13 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 12, sa 12, lp 11, wz 12, wa 12] (pure PUnit.unit) := rfl
theorem win14 : k0_part14 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 13, sa 13, lp 12, wz 13, wa 13] (pure PUnit.unit) := rfl
theorem win15 : k0_part15 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 14, sa 14, lp 13, wz 14, wa 14] (pure PUnit.unit) := rfl
theorem win16 : k0_part16 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 15, sa 15, lp 14, wz 15, wa 15, sz 16] (pure PUnit.unit) := rfl
theorem win17 : k0_part17 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 16, lp 15, wz 16, wa 16, sz 17] (pure 2176#32) := rfl
theorem win18 : k0_part18 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV 2176#32 = seq i [sa 17, lp 16, wz 17, wa 17, sz 18] (pure PUnit.unit) := rfl
theorem win19 : k0_part19 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 18, lp 17, wz 18, wa 18, sz 19] (pure PUnit.unit) := rfl
theorem win20 : k0_part20 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 19, lp 18, wz 19, wa 19, sz 20] (pure PUnit.unit) := rfl
theorem win21 : k0_part21 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 20, lp 19, wz 20, wa 20, sz 21] (pure PUnit.unit) := rfl
theorem win22 : k0_part22 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 21, lp 20, wz 21, wa 21, sz 22] (pure PUnit.unit) := rfl
theorem win23 : k0_part23 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 22, lp 21, wz 22, wa 22, sz 23] (pure PUnit.unit) := rfl
theorem win24 : k0_part24 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 23, lp 22, wz 23, wa 23, sz 24] (pure PUnit.unit) := rfl
theorem win25 : k0_part25 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 24, lp 23, wz 24, wa 24, sz 25] (pure PUnit.unit) := rfl
theorem win26 : k0_part26 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 25, lp 24, wz 25, wa 25, sz 26] (pure PUnit.unit) := rfl
theorem win27 : k0_part27 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 26, lp 25, wz 26, wa 26, sz 27] (pure PUnit.unit) := rfl
theorem win28 : k0_part28 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 27, lp 26, wz 27, wa 27, sz 28] (pure PUnit.unit) := rfl
theorem win29 : k0_part29 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sa 28, lp 27, wz 28, wa 28, sz 29, sa 29] (pure PUnit.unit) := rfl
theorem win30 : k0_part30 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [lp 28, wz 29, wa 29, sz 30, sa 30] (pure PUnit.unit) := rfl
theorem win31 : k0_part31 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [lp 29, wz 30, wa 30, sz 31, sa 31] (pure 0#32) := rfl
theorem win32 : k0_part32 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV 0#32 = seq i [lp 30, wz 31, wa 31, sz 32, sa 32] (pure ⟨0#32, 8#32⟩) := rfl
theorem win33 : k0_part33 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV 0#32 8#32 = seq i [lp 31, wz 32, wa 32, sz 33, sa 33] (pure 0#32) := rfl
theorem win34 : k0_part34 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV 0#32 = seq i [lp 32, wz 33, wa 33, sz 34, sa 34] (pure ⟨0#32, 1#32⟩) := rfl
theorem win35 : k0_part35 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV 0#32 1#32 = seq i [lp 33, wz 34, wa 34, sz 35, sa 35, lp 34] (pure PUnit.unit) := rfl
theorem win36 : k0_part36 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 35, wa 35, sz 36, sa 36, lp 35] (pure PUnit.unit) := rfl
theorem win37 : k0_part37 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 36, wa 36, sz 37, sa 37, lp 36] (pure 4736#32) := rfl
theorem win38 : k0_part38 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV 4736#32 = seq i [wz 37, wa 37, sz 38, sa 38, lp 37] (pure PUnit.unit) := rfl
theorem win39 : k0_part39 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 38, wa 38, sz 39, sa 39, lp 38] (pure PUnit.unit) := rfl
theorem win40 : k0_part40 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 39, wa 39, sz 40, sa 40, lp 39] (pure PUnit.unit) := rfl
theorem win41 : k0_part41 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 40, wa 40, sz 41, sa 41, lp 40] (pure PUnit.unit) := rfl
theorem win42 : k0_part42 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 41, wa 41, sz 42, sa 42, lp 41] (pure PUnit.unit) := rfl
theorem win43 : k0_part43 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 42, wa 42, sz 43, sa 43, lp 42] (pure PUnit.unit) := rfl
theorem win44 : k0_part44 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 43, wa 43, sz 44, sa 44, lp 43] (pure PUnit.unit) := rfl
theorem win45 : k0_part45 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 44, wa 44, sz 45, sa 45, lp 44] (pure PUnit.unit) := rfl
theorem win46 : k0_part46 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 45, wa 45, sz 46, sa 46, lp 45] (pure PUnit.unit) := rfl
theorem win47 : k0_part47 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 46, wa 46, sz 47, sa 47, lp 46] (pure PUnit.unit) := rfl
theorem win48 : k0_part48 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 47, wa 47, sz 48, sa 48, lp 47] (pure PUnit.unit) := rfl
theorem win49 : k0_part49 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wz 48, wa 48, sz 49, sa 49, lp 48, wz 49] (pure PUnit.unit) := rfl
theorem win50 : k0_part50 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 49, sz 50, sa 50, lp 49, wz 50] (pure 6400#32) := rfl
theorem win51 : k0_part51 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV 6400#32 = seq i [wa 50, sz 51, sa 51, lp 50, wz 51] (pure PUnit.unit) := rfl
theorem win52 : k0_part52 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 51, sz 52, sa 52, lp 51, wz 52] (pure PUnit.unit) := rfl
theorem win53 : k0_part53 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 52, sz 53, sa 53, lp 52, wz 53] (pure PUnit.unit) := rfl
theorem win54 : k0_part54 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 53, sz 54, sa 54, lp 53, wz 54] (pure PUnit.unit) := rfl
theorem win55 : k0_part55 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 54, sz 55, sa 55, lp 54, wz 55] (pure PUnit.unit) := rfl
theorem win56 : k0_part56 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 55, sz 56, sa 56, lp 55, wz 56] (pure PUnit.unit) := rfl
theorem win57 : k0_part57 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 56, sz 57, sa 57, lp 56, wz 57] (pure PUnit.unit) := rfl
theorem win58 : k0_part58 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 57, sz 58, sa 58, lp 57, wz 58] (pure PUnit.unit) := rfl
theorem win59 : k0_part59 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 58, sz 59, sa 59, lp 58, wz 59] (pure PUnit.unit) := rfl
theorem win60 : k0_part60 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 59, sz 60, sa 60, lp 59, wz 60] (pure PUnit.unit) := rfl
theorem win61 : k0_part61 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 60, sz 61, sa 61, lp 60, wz 61] (pure PUnit.unit) := rfl
theorem win62 : k0_part62 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [wa 61, sz 62, sa 62, lp 61, wz 62, wa 62] (pure PUnit.unit) := rfl
theorem win63 : k0_part63 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 v2 laneV colV = seq i [sz 63, sa 63, lp 62, wz 63, wa 63] (pure PUnit.unit) := rfl

end Windows

/-! ## The whole body -/

/-- The copy of the tile's result to its rows of the output, and the wait for it. -/
def fin (i : grid0.Coords) : TP F i PUnit := do
  Prog.lift (.enqueueDma oB (.here (oM.slice (Rect.unit (s := S262144) (k0_off69 i) S8192.size (k0_off69_inb i)) (fun _ => rfl))) (.dma cc0_scoped0.sem) (Memref.isWhole_whole _).wordExact (View.wordExact_bits rfl) ⟨Or.inl rfl, trivial⟩)
  Prog.lift (.waitDma2 cc0_scoped0.sem oB (oM.slice (Rect.unit (s := S262144) (k0_off69 i) S8192.size (k0_off69_inb i)) (fun _ => rfl)) (Memref.isWhole_whole _).wordExact (View.wordExact_bits rfl))
  pure ⟨⟩

/-- The steps from chunk `c` on when `k` chunks come after it: at each, wait for its copies, start the next chunk's if there is one,
gather. -/
def rest : (k : ℕ) → (c : Fin 64) → List Step
  | 0, c => [wz c, wa c, lp c]
  | k + 1, c => wz c :: wa c :: sz (c + 1) :: sa (c + 1) :: lp c :: rest k (c + 1)

theorem part64_eq (i : grid0.Coords) : k0_part64 (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 = seq i [sz 0, sa 0, wz 0, wa 0, sz 1, sa 1, lp 0, wz 1, wa 1, sz 2, sa 2, lp 1, wz 2, wa 2, sz 3, sa 3, lp 2, wz 3, wa 3, sz 4, sa 4, lp 3, wz 4, wa 4, sz 5, sa 5, lp 4, wz 5, wa 5, sz 6, sa 6, lp 5, wz 6, wa 6, sz 7, sa 7, lp 6, wz 7, wa 7, sz 8, sa 8, lp 7, wz 8, wa 8, sz 9, sa 9, lp 8, wz 9, wa 9, sz 10, sa 10, lp 9, wz 10, wa 10, sz 11, sa 11, lp 10, wz 11, wa 11, sz 12, sa 12, lp 11, wz 12, wa 12, sz 13, sa 13, lp 12, wz 13, wa 13, sz 14, sa 14, lp 13, wz 14, wa 14, sz 15, sa 15, lp 14, wz 15, wa 15, sz 16, sa 16, lp 15, wz 16, wa 16, sz 17, sa 17, lp 16, wz 17, wa 17, sz 18, sa 18, lp 17, wz 18, wa 18, sz 19, sa 19, lp 18, wz 19, wa 19, sz 20, sa 20, lp 19, wz 20, wa 20, sz 21, sa 21, lp 20, wz 21, wa 21, sz 22, sa 22, lp 21, wz 22, wa 22, sz 23, sa 23, lp 22, wz 23, wa 23, sz 24, sa 24, lp 23, wz 24, wa 24, sz 25, sa 25, lp 24, wz 25, wa 25, sz 26, sa 26, lp 25, wz 26, wa 26, sz 27, sa 27, lp 26, wz 27, wa 27, sz 28, sa 28, lp 27, wz 28, wa 28, sz 29, sa 29, lp 28, wz 29, wa 29, sz 30, sa 30, lp 29, wz 30, wa 30, sz 31, sa 31, lp 30, wz 31, wa 31, sz 32, sa 32, lp 31, wz 32, wa 32, sz 33, sa 33, lp 32, wz 33, wa 33, sz 34, sa 34, lp 33, wz 34, wa 34, sz 35, sa 35, lp 34, wz 35, wa 35, sz 36, sa 36, lp 35, wz 36, wa 36, sz 37, sa 37, lp 36, wz 37, wa 37, sz 38, sa 38, lp 37, wz 38, wa 38, sz 39, sa 39, lp 38, wz 39, wa 39, sz 40, sa 40, lp 39, wz 40, wa 40, sz 41, sa 41, lp 40, wz 41, wa 41, sz 42, sa 42, lp 41, wz 42, wa 42, sz 43, sa 43, lp 42, wz 43, wa 43, sz 44, sa 44, lp 43, wz 44, wa 44, sz 45, sa 45, lp 44, wz 45, wa 45, sz 46, sa 46, lp 45, wz 46, wa 46, sz 47, sa 47, lp 46, wz 47, wa 47, sz 48, sa 48, lp 47, wz 48, wa 48, sz 49, sa 49, lp 48, wz 49, wa 49, sz 50, sa 50, lp 49, wz 50, wa 50, sz 51, sa 51, lp 50, wz 51, wa 51, sz 52, sa 52, lp 51, wz 52, wa 52, sz 53, sa 53, lp 52, wz 53, wa 53, sz 54, sa 54, lp 53, wz 54, wa 54, sz 55, sa 55, lp 54, wz 55, wa 55, sz 56, sa 56, lp 55, wz 56, wa 56, sz 57, sa 57, lp 56, wz 57, wa 57, sz 58, sa 58, lp 57, wz 58, wa 58, sz 59, sa 59, lp 58, wz 59, wa 59, sz 60, sa 60, lp 59, wz 60] (pure ⟨baseW i, laneV, colV⟩) := by
  unfold k0_part64
  simp only [win1, win2, win3, win4, win5, win6, win7, win8, win9, win10, win11, win12, win13, win14, win15, win16, win17, win18, win19, win20, win21, win22, win23, win24, win25, win26, win27, win28, win29, win30, win31, win32, win33, win34, win35, win36, win37, win38, win39, win40, win41, win42, win43, win44, win45, win46, win47, win48, win49, win50, win51, win52, win53, win54, win55, win56, win57, win58, win59, win60, seq_bind, seq_seq, pure_bind]
  rfl

/-- The printed body is these steps, then the copy out. -/
theorem body_eq (i : grid0.Coords) : cc0_k (F := F) i zM (Memref.isWhole_whole _) aM (Memref.isWhole_whole _) oM (Memref.isWhole_whole _) zB (Memref.isWhole_whole _) aB (Memref.isWhole_whole _) oB (Memref.isWhole_whole _) cc0_scratch3 cc0_scratch4 cc0_scoped0 = seq i (sz 0 :: sa 0 :: rest 63 0) (fin i) := by
  have e : sz 0 :: sa 0 :: rest 63 0 = [sz 0, sa 0, wz 0, wa 0, sz 1, sa 1, lp 0, wz 1, wa 1, sz 2, sa 2, lp 1, wz 2, wa 2, sz 3, sa 3, lp 2, wz 3, wa 3, sz 4, sa 4, lp 3, wz 4, wa 4, sz 5, sa 5, lp 4, wz 5, wa 5, sz 6, sa 6, lp 5, wz 6, wa 6, sz 7, sa 7, lp 6, wz 7, wa 7, sz 8, sa 8, lp 7, wz 8, wa 8, sz 9, sa 9, lp 8, wz 9, wa 9, sz 10, sa 10, lp 9, wz 10, wa 10, sz 11, sa 11, lp 10, wz 11, wa 11, sz 12, sa 12, lp 11, wz 12, wa 12, sz 13, sa 13, lp 12, wz 13, wa 13, sz 14, sa 14, lp 13, wz 14, wa 14, sz 15, sa 15, lp 14, wz 15, wa 15, sz 16, sa 16, lp 15, wz 16, wa 16, sz 17, sa 17, lp 16, wz 17, wa 17, sz 18, sa 18, lp 17, wz 18, wa 18, sz 19, sa 19, lp 18, wz 19, wa 19, sz 20, sa 20, lp 19, wz 20, wa 20, sz 21, sa 21, lp 20, wz 21, wa 21, sz 22, sa 22, lp 21, wz 22, wa 22, sz 23, sa 23, lp 22, wz 23, wa 23, sz 24, sa 24, lp 23, wz 24, wa 24, sz 25, sa 25, lp 24, wz 25, wa 25, sz 26, sa 26, lp 25, wz 26, wa 26, sz 27, sa 27, lp 26, wz 27, wa 27, sz 28, sa 28, lp 27, wz 28, wa 28, sz 29, sa 29, lp 28, wz 29, wa 29, sz 30, sa 30, lp 29, wz 30, wa 30, sz 31, sa 31, lp 30, wz 31, wa 31, sz 32, sa 32, lp 31, wz 32, wa 32, sz 33, sa 33, lp 32, wz 33, wa 33, sz 34, sa 34, lp 33, wz 34, wa 34, sz 35, sa 35, lp 34, wz 35, wa 35, sz 36, sa 36, lp 35, wz 36, wa 36, sz 37, sa 37, lp 36, wz 37, wa 37, sz 38, sa 38, lp 37, wz 38, wa 38, sz 39, sa 39, lp 38, wz 39, wa 39, sz 40, sa 40, lp 39, wz 40, wa 40, sz 41, sa 41, lp 40, wz 41, wa 41, sz 42, sa 42, lp 41, wz 42, wa 42, sz 43, sa 43, lp 42, wz 43, wa 43, sz 44, sa 44, lp 43, wz 44, wa 44, sz 45, sa 45, lp 44, wz 45, wa 45, sz 46, sa 46, lp 45, wz 46, wa 46, sz 47, sa 47, lp 46, wz 47, wa 47, sz 48, sa 48, lp 47, wz 48, wa 48, sz 49, sa 49, lp 48, wz 49, wa 49, sz 50, sa 50, lp 49, wz 50, wa 50, sz 51, sa 51, lp 50, wz 51, wa 51, sz 52, sa 52, lp 51, wz 52, wa 52, sz 53, sa 53, lp 52, wz 53, wa 53, sz 54, sa 54, lp 53, wz 54, wa 54, sz 55, sa 55, lp 54, wz 55, wa 55, sz 56, sa 56, lp 55, wz 56, wa 56, sz 57, sa 57, lp 56, wz 57, wa 57, sz 58, sa 58, lp 57, wz 58, wa 58, sz 59, sa 59, lp 58, wz 59, wa 59, sz 60, sa 60, lp 59, wz 60] ++ [wa 60, sz 61, sa 61, lp 60, wz 61, wa 61, sz 62, sa 62, lp 61, wz 62, wa 62, sz 63, sa 63, lp 62, wz 63, wa 63, lp 63] := by decide +kernel
  rw [e, ← seq_seq]
  unfold cc0_k
  rw [part64_eq]
  simp only [win61, win62, win63, seq_bind, seq_seq, pure_bind]
  rfl

end Cert.Proof.Text

end
-- ==== Proof.Slot.lean ====
/-
  A copy into one slot of a double buffer while the other slot is read through the buffer whole. A gather out of a scratch loads the
  scratch whole, also the slot a copy is writing; so that slot is put in write mode for the time of the copy, half of it travels with
  the copy and half stays to be read through. What the reader sees of it is some contents, of which it uses nothing.
-/
module

public import Idealize.ShloMosaic.Lib.SparseCore.Quiescent
public import Idealize.ShloMosaic.Lib.SparseCore.Ops
public import Idealize.ShloMosaic.Lib.WriteMode
public import Idealize.ShloMosaic.Lib.Tactic

@[expose] public section

noncomputable section

namespace Cert.Proof.Slot

open Idealize.ShloMosaic
open Idealize.ShloMosaic.Transfers (Flight flight_alloc flight_creditUpdate flight_intro wp_waitLocalO)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {F : FTy → Type} [FloatOps F] {Name : Type} [DecidableEq Name]
variable {U : Type} [URA U] {Lvl : Type} [Preorder Lvl] {Λ : Labels}
variable (emb : UEmb (WmRA nD τ sig (Elt F)) U) (EC : UEmb Counters (MT nD τ sig Ix (Elt F) Name U Lvl))

local notation "𝕄" => MT nD τ sig Ix (Elt F) Name U Lvl

/-- The full share is its two halves. -/
local instance : IsOp fullShare fullShare.left fullShare.right := ⟨PosShare.mem_left_op_right fullShare⟩

section

variable {sp sp' : Space} {s : Shape} {e : EltTy}

/-- A copy of `src` into `dst` is in flight on the cell `sm` of thread `c`, out of elements `R` of the source held at `fs`; once waited
    for, the destination holds `new`. -/
def Fly (c : Thread nD τ) (sm : SemLoc sig) (ι : Ix) (N : ℕ) (src : Memref sig c.2.kind sp s e) (R : Finset (Idx (src.view.loc c)))
    (q : PosShare TreeShare) (fs : Buf (Elt F) (src.view.loc c)) (dst : Memref sig c.2.kind sp' s e) (new : Buf (Elt F) (dst.view.loc c)) :
    sProp 𝕄 :=
  iprop(∃ fd,
    Flight EC c sm ι N iprop(willBeTo emb (dst.view.loc c) dst.view.set fullShare.left fd (fun i => some (new i)) (∅ ∪ dst.view.set)
        ∗ (src.view.loc c ↦[src.view.set]{q} fs))
      ∗ willBeTo emb (dst.view.loc c) dst.view.set fullShare.right fd (fun i => some (new i)) ∅
      ∗ (src.view.loc c ↦[R \ src.view.set]{q} fs))

end

section

variable {defs : Defs nD τ sig (Elt F) Λ} (𝒱 : Variants) (c : Thread nD τ) (bd : Option 𝒱.V) {ιwm : Name}
variable {sp sp' : Space} {s : Shape} {e : EltTy}
variable {emb} {EC} {α : Type}

/-- Starting the copy: from the source and the destination in hand and the cell at zero. -/
theorem wp_start [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {Q : α → sProp 𝕄} {q : PosShare TreeShare} {fs : Buf (Elt F) (src.view.loc c)}
    {R : Finset (Idx (src.view.loc c))} {fd new : Buf (Elt F) (dst.view.loc c)}
    (ι : Ix) (N : ℕ) (hN : dst.view.amount sm = N) (hN0 : 0 < N) (hR : src.view.set ⊆ R)
    (hnew : ∀ x, dst.view.read (Elt F) new x = src.view.read (Elt F) fs x) :
    iprop(wmInv emb ιwm ∗ (src.view.loc c ↦[R]{q} fs) ∗ (dst.view.loc c ↦[dst.view.set]{fullShare} fd) ∗ semVal (c, sm) 0)
      ⊢ iprop((Fly emb EC c sm ι N src R q fs dst new -∗ wp frame (wpE defs 𝒱 c bd) Set.univ (k ⟨⟩) Q)
          -∗ wp frame (wpE defs 𝒱 c bd) Set.univ (.op (.enqueueDma src (.here dst) sm hsrc hdst hsem) k) Q) := by
  have hadm : dst.view.Admitted (Elt F) (fun i => some (new i)) (src.view.read (Elt F) fs) Finset.univ :=
    View.admitted_some_iff.mpr fun x _ => (hnew x).symm
  iintro ⟨#Hwm, Hs, Hd, Hv⟩ Hk
  ihave Hs := (pointsTo_split_subset hR).1 $$ Hs
  icases Hs with ⟨Hs, Hr⟩
  imod (pointsTo_castIn (emb := emb) (ιwm := ιwm) (E := Set.univ) (fun i => some (new i))) $$ [Hd] with Hd
  · isplitr; · iexact Hwm
    iexact Hd
  icases Hd with ⟨Hl, Hh⟩
  imod (flight_alloc EC hN0 iprop(willBeTo emb (dst.view.loc c) dst.view.set fullShare.left fd (fun i => some (new i)) (∅ ∪ dst.view.set)
        ∗ (src.view.loc c ↦[src.view.set]{q} fs)) (g := (c, sm))) $$ Hv with ⟨%γ, %δ, %κ, #Hinv, Hγ, Hδ⟩
  iapply (wp_enqueueDma_willBeTo 𝒱 c bd Set.univ ι N hN hadm) $$ [Hs Hl] [Hγ]
  · isplitl [Hs]; · iexact Hs
    isplitr; · iexact Hwm
    iexact Hl
  · iapply (flight_creditUpdate EC (δ := δ))
    isplitr; · iexact Hinv
    iexact Hγ
  iintro Hcred
  iapply Hk
  unfold Fly
  iexists fd
  isplitl [Hδ Hcred]
  · iapply (flight_intro EC c (κ := κ))
    isplitr; · iexact Hinv
    isplitl [Hδ] <;> iassumption
  isplitl [Hh] <;> iassumption

/-- Waiting for the copy: the destination holds `new`, the source is whole again and the cell is at zero. -/
theorem wp_land [EC.LandsIn (upEmb : UEmb _ 𝕄)] {sem : DmaSem sig}
    {src : Memref sig c.2.kind sp s e} {dst : Memref sig c.2.kind sp' s e}
    {hsrc : src.view.WordExact} {hdst : dst.view.WordExact}
    {k : PUnit → Prog (TpuEff nD τ sig (Elt F) Λ c.2) α} {Q : α → sProp 𝕄} {q : PosShare TreeShare} {fs : Buf (Elt F) (src.view.loc c)}
    {R : Finset (Idx (src.view.loc c))} {new : Buf (Elt F) (dst.view.loc c)} {O : CellTallies nD τ sig Ix} {W : Waits sig Ix}
    (ι : Ix) (N : ℕ) (hN : dst.view.dmaCredit = N) (hR : src.view.set ⊆ R) :
    iprop(wmInv emb ιwm ∗ Fly emb EC c (.dma sem) ι N src R q fs dst new ∗ owes c O W ∗ MayWait c (.dma sem) ι O)
      ⊢ iprop((iprop((dst.view.loc c ↦[dst.view.set]{fullShare} new) ∗ (src.view.loc c ↦[R]{q} fs) ∗ semVal (c, .dma sem) 0
              ∗ owes c O (insert (SemLoc.dma sem, ι) W)) -∗ wp frame (wpE defs 𝒱 c bd) Set.univ (k ⟨⟩) Q)
          -∗ wp frame (wpE defs 𝒱 c bd) Set.univ (.op (.waitDma2 sem src dst hsrc hdst) k) Q) := by
  unfold Fly
  iintro ⟨#Hwm, ⟨%fd, Hf, Hh, Hr⟩, HO, Hmw⟩ Hk
  iapply (wp_waitLocalO EC 𝒱 c bd ι hN) $$ [Hf HO Hmw]
  · isplitl [Hf]; · iexact Hf
    isplitl [HO] <;> iassumption
  iintro ⟨⟨Hl, Hs⟩, Hv, HO⟩
  icombine Hl Hh as Hd
  imod (willBeTo_castOut_some (emb := emb) (ιwm := ιwm) (E := Set.univ)) $$ [Hd] with Hd
  · isplitr; · iexact Hwm
    iexact Hd
  iapply Hk
  isplitl [Hd]
  · iapply (Entails.of_eq (pointsTo_congr fun i hi => ?_)) $$ Hd
    rw [Finset.piecewise_eq_of_mem _ _ _ (by rw [Finset.union_empty, Finset.empty_union]; exact hi)]
  isplitl [Hs Hr]
  · iapply (pointsTo_split_subset hR).2
    isplitl [Hs] <;> iassumption
  isplitl [Hv] <;> iassumption

/-- A gather out of a scratch of which the elements `S` are held outright at `f` and the elements `T` in write mode: it reads contents
    `cur` that are `f` on `S`. -/
theorem wp_gather {t : Shape} {b : Memref sig c.2.kind .vmem s e} {idxs : Fin s.rank → IVec t 32}
    {h : ∀ a x, (idxs a x).toNat < s.size a} {hl : b.view.Loads} {k : Vec F t e → Prog (TpuEff nD τ sig (Elt F) Λ c.2) α} {Q : α → sProp 𝕄}
    {S T : Finset (Idx (b.view.loc c))} {q : PosShare TreeShare} {f f' : Buf (Elt F) (b.view.loc c)}
    {g : Tgt (Elt F) (b.view.loc c)} {W : Finset (Idx (b.view.loc c))}
    (hd : Disjoint S T) (hST : S ∪ T = Finset.univ) :
    (iprop(wmInv emb ιwm ∗ (b.view.loc c ↦[S]{fullShare} f) ∗ willBeTo emb (b.view.loc c) T q f' g W) : sProp 𝕄)
      ⊢ iprop((∀ cur : Buf (Elt F) (b.view.loc c), ⌜∀ i ∈ S, cur i = f i⌝
            -∗ iprop((b.view.loc c ↦[S]{fullShare} f) ∗ willBeTo emb (b.view.loc c) T q f' g W)
            -∗ wp frame (wpE defs 𝒱 c bd) Set.univ (k (loadIdx ((b.access (.whole s)).read (Elt F) cur) idxs h)) Q)
          -∗ wp frame (wpE defs 𝒱 c bd) Set.univ (SparseCore.vectorLoadIdx b idxs h hl >>= k) Q) := by
  rw [SparseCore.vectorLoadIdx_bind]
  iintro ⟨#Hwm, HS, HT⟩ Hk
  imod (willBeTo_acc (emb := emb) (ιwm := ιwm) (E := Set.univ)) $$ [HT] with ⟨%cur, %W', %hW, Hraw, %hcur, Hclose⟩
  · isplitr; · iexact Hwm
    iexact HT
  imodintro
  ihave H := (pointsTo_join hd) $$ [HS Hraw]
  · isplitl [HS] <;> iassumption
  iapply (fp_load c (S := S ∪ T) (by rw [hST]; exact Finset.subset_univ _)) $$ H
  iintro H
  ihave H := (pointsTo_union hd).1 $$ H
  icases H with ⟨HS, Hraw⟩
  ihave HS := (Entails.of_eq (pointsTo_congr (g := f) fun i hi =>
    Finset.piecewise_eq_of_notMem _ _ _ (Finset.disjoint_left.mp hd hi))) $$ HS
  ihave Hraw := (Entails.of_eq (pointsTo_congr (g := cur) fun i hi => Finset.piecewise_eq_of_mem _ _ _ hi)) $$ Hraw
  ispecialize Hclose $$ %cur %∅
    %⟨Finset.empty_subset _, fun i h => absurd h (Finset.notMem_empty i), fun _ _ _ => rfl⟩ Hraw
  imod Hclose with HT
  imodintro
  rw [Finset.union_empty]
  iapply Hk $$ %(T.piecewise cur f) %(fun i hi => Finset.piecewise_eq_of_notMem _ _ _ (Finset.disjoint_left.mp hd hi)) [HS HT]
  isplitl [HS] <;> iassumption

end

end Cert.Proof.Slot
-- ==== Proof.Base.lean ====
/-
  The launch as the launch theorem sees it: the program, the resource algebra (the handshakes' rounds, write mode, the local copies'
  counters), the arrays, and the value every entry of the result takes.
-/
module

public import proofs.«01_k».proof.Proof.Text
public import proofs.«01_k».proof.Proof.Slot
public import proofs.«01_k».proof.Proof.Gen.KernelIdeal.Skeleton
public import Idealize.ShloMosaic.Lib.StableHlo.Run
public import Idealize.ShloMosaic.Lib.Pipeline.Kit

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The side conditions of the launch theorem on the handshake's semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- Beside the handshakes: write mode for the slots a copy is writing, and the local copies' counters. -/
abbrev UW (F : FTy → Type) : Type := WmRA nD τ sig (Elt F) × Counters
abbrev UU (F : FTy → Type) : Type := UH × UW F

/-- The propositions of the proof. -/
abbrev PP (F : FTy → Type) := sProp (MT nD τ sig (HIx 1) (Elt F) ℕ (UU F) ℕ)

abbrev EH : Emb UH (MT nD τ sig (HIx 1) (Elt F) ℕ (UU F) ℕ) := embL
abbrev EW : UEmb (WmRA nD τ sig (Elt F)) (UU F) := UEmb.inl.trans UEmb.inr
abbrev EC : UEmb Counters (MT nD τ sig (HIx 1) (Elt F) ℕ (UU F) ℕ) := countersEmb

/-! ## The arrays -/

abbrev zLoc (d : Dev nD) : Loc nD τ sig := (SparseCore.T d).loc main_arg0
abbrev aLoc (d : Dev nD) : Loc nD τ sig := (SparseCore.T d).loc main_arg1
abbrev oLoc (d : Dev nD) : Loc nD τ sig := (SparseCore.T d).loc main_v0

abbrev ZBuf (F : FTy → Type) : Type := S262144x32.Idx → Elt F .f32
abbrev ABuf (F : FTy → Type) : Type := S262144x64.Idx → Elt F .f32
abbrev OBuf (F : FTy → Type) : Type := S262144.Idx → Elt F .f32

/-- Entry `(r, k)` of `z` and of `a`; entry `r` of the result and of a tile's part of it. -/
def zAt (r : Fin 262144) (k : Fin 32) : S262144x32.Idx := fun | 0 => r | 1 => k
def aAt (r : Fin 262144) (k : Fin 64) : S262144x64.Idx := fun | 0 => r | 1 => k
def oAt (r : Fin 262144) : S262144.Idx := fun | 0 => r
def bAt (p : Fin 8192) : S8192.Idx := fun | 0 => p

variable [FloatOps F]

/-- The class of row `r`: column 8 of `z`, rounded towards zero to an integer. -/
def cls (Z : ZBuf F) (r : Fin 262144) : BitVec 32 := FloatOps.fptosi (F := F) (φ := .f32) 32 (Z (zAt r 8))

/-- Entry `r` of the result: the entry of row `r` of `a` at its class, times the f32 nearest 0.999. -/
def outV (Z : ZBuf F) (A : ABuf F) (r : Fin 262144) : Elt F .f32 :=
  FloatOps.mulf (F := F) (φ := .f32) (A (aAt r ⟨(cls Z r).toNat % 64, Nat.mod_lt _ (by decide)⟩)) (FloatOps.ofBits (F := F) .f32 0x3F7FBE77#32)

/-- The result array. -/
def outB (Z : ZBuf F) (A : ABuf F) : OBuf F := fun x => outV Z A (x 0)

end Cert.Proof
-- ==== Proof.Trip.lean ====
/-
  One trip of the gather loop: which elements of the arrays and scratches a chunk's slices are, and what a trip leaves in the tile's
  result.
-/
module

public import proofs.«01_k».proof.Proof.Base
public import Idealize.ShloMosaic.Lib.Pipeline.ValueKit.Geometry

@[expose] public section

noncomputable section

namespace Cert.Proof

open Cert.KernelIdeal Cert.KernelIdeal.Gen Cert.Proof.Text
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

/-! ## Where the slices lie -/

/-- The slot of chunk `c` in the scratch of `z`: the rows `128 (c % 2) … 128 (c % 2) + 127`. -/
theorem mem_zDst (c : Fin 64) (x : S256x32.Idx) : x ∈ (zDst c).view.set ↔ (x 0).val / 128 = c.val % 2 := by
  have h0 : (x 0).val < 256 := (x 0).isLt
  have h1 : (x 1).val < 32 := (x 1).isLt
  refine (ValueKit.mem_set_slice_whole_iff cc0_scratch0 (Rect.unit (s := S256x32) (slOff c) S128x32.size (slOff_inbZ c)) x Rect.mem_set_unit).trans ?_
  constructor
  · intro h; have := h 0; change 128 * (c.val % 2) ≤ (x 0).val ∧ (x 0).val < 128 * (c.val % 2) + 128 at this; omega
  · intro h a
    match a with
    | 0 => show 128 * (c.val % 2) ≤ (x 0).val ∧ (x 0).val < 128 * (c.val % 2) + 128; omega
    | 1 => show 0 ≤ (x 1).val ∧ (x 1).val < 0 + 32; omega

/-- The slot of chunk `c` in the scratch of `a`, likewise. -/
theorem mem_aDst (c : Fin 64) (x : S256x64.Idx) : x ∈ (aDst c).view.set ↔ (x 0).val / 128 = c.val % 2 := by
  have h0 : (x 0).val < 256 := (x 0).isLt
  have h1 : (x 1).val < 64 := (x 1).isLt
  refine (ValueKit.mem_set_slice_whole_iff cc0_scratch1 (Rect.unit (s := S256x64) (slOff c) S128x64.size (slOff_inbA c)) x Rect.mem_set_unit).trans ?_
  constructor
  · intro h; have := h 0; change 128 * (c.val % 2) ≤ (x 0).val ∧ (x 0).val < 128 * (c.val % 2) + 128 at this; omega
  · intro h a
    match a with
    | 0 => show 128 * (c.val % 2) ≤ (x 0).val ∧ (x 0).val < 128 * (c.val % 2) + 128; omega
    | 1 => show 0 ≤ (x 1).val ∧ (x 1).val < 0 + 64; omega

/-- The first row of tile `i`. -/
abbrev base (i : grid0.Coords) : ℕ := 16384 * (i 1).val + 8192 * (i 0).val

theorem base_le (i : grid0.Coords) : base i + 8192 ≤ 262144 := by
  have h1 : (i 1).val < 16 := (i 1).isLt
  have h0 : (i 0).val < 2 := (i 0).isLt
  show 16384 * (i 1).val + 8192 * (i 0).val + 8192 ≤ 262144; omega

/-- Row `p` of tile `i`, among all rows. -/
def trow (i : grid0.Coords) (p : Fin 8192) : Fin 262144 := ⟨base i + p.val, by have := base_le i; omega⟩

/-- Row `k` of chunk `c` of a tile. -/
def crow (c : Fin 64) (k : ℕ) : Fin 8192 := ⟨128 * c.val + k % 128, by omega⟩

/-- What the slot of chunk `c` of tile `i` holds once its copy has landed: row `k` of the slot is row `k` of the chunk. -/
def zNew (i : grid0.Coords) (Z : ZBuf F) (c : Fin 64) : S256x32.Idx → Elt F .f32 := fun x => Z (zAt (trow i (crow c (x 0).val)) (x 1))
def aNew (i : grid0.Coords) (A : ABuf F) (c : Fin 64) : S256x64.Idx → Elt F .f32 := fun x => A (aAt (trow i (crow c (x 0).val)) (x 1))

/-- Read through the slot, that is the chunk. -/
theorem read_zNew (i : grid0.Coords) (Z : ZBuf F) (c : Fin 64) (x : S128x32.Idx) :
    (zDst c).view.read (Elt F) (zNew i Z c) x = (zSrc i c).view.read (Elt F) Z x := by
  have hx : (x 0).val < 128 := (x 0).isLt
  rw [View.read_apply, View.read_apply]
  refine congrArg Z (funext fun a => Fin.ext ?_)
  have e := ValueKit.view_emb_slice_whole_unit_val main_arg0_scv (chOff i c) S128x32.size (chOff_inbZ i c) x a
  refine Eq.trans ?_ (e.trans (congrArg (· + (x a).val) (congrFun (chOff_eq i c) a))).symm
  match a with
  | 0 =>
    have e0 := ValueKit.view_emb_slice_whole_unit_val cc0_scratch0 (slOff c) S128x32.size (slOff_inbZ c) x 0
    show base i + (128 * c.val + (((zDst c).view.emb x) 0).val % 128) = base i + 128 * c.val + (x 0).val
    have e1 : (((zDst c).view.emb x) 0).val = 128 * (c.val % 2) + (x 0).val := e0
    omega
  | 1 =>
    have e0 := ValueKit.view_emb_slice_whole_unit_val cc0_scratch0 (slOff c) S128x32.size (slOff_inbZ c) x 1
    exact e0

theorem read_aNew (i : grid0.Coords) (A : ABuf F) (c : Fin 64) (x : S128x64.Idx) :
    (aDst c).view.read (Elt F) (aNew i A c) x = (aSrc i c).view.read (Elt F) A x := by
  have hx : (x 0).val < 128 := (x 0).isLt
  rw [View.read_apply, View.read_apply]
  refine congrArg A (funext fun a => Fin.ext ?_)
  have e := ValueKit.view_emb_slice_whole_unit_val main_arg1_scv (chOff i c) S128x64.size (chOff_inbA i c) x a
  refine Eq.trans ?_ (e.trans (congrArg (· + (x a).val) (congrFun (chOff_eq i c) a))).symm
  match a with
  | 0 =>
    have e0 := ValueKit.view_emb_slice_whole_unit_val cc0_scratch1 (slOff c) S128x64.size (slOff_inbA c) x 0
    show base i + (128 * c.val + (((aDst c).view.emb x) 0).val % 128) = base i + 128 * c.val + (x 0).val
    have e1 : (((aDst c).view.emb x) 0).val = 128 * (c.val % 2) + (x 0).val := e0
    omega
  | 1 =>
    have e0 := ValueKit.view_emb_slice_whole_unit_val cc0_scratch1 (slOff c) S128x64.size (slOff_inbA c) x 1
    exact e0

/-- The rows of tile `i`, in `z`, in `a` and in the result. -/
def zRows (i : grid0.Coords) : Finset S262144x32.Idx := Finset.univ.filter fun x => (x 0).val / 8192 = 2 * (i 1).val + (i 0).val
def aRows (i : grid0.Coords) : Finset S262144x64.Idx := Finset.univ.filter fun x => (x 0).val / 8192 = 2 * (i 1).val + (i 0).val
def oRows (i : grid0.Coords) : Finset S262144.Idx := Finset.univ.filter fun x => (x 0).val / 8192 = 2 * (i 1).val + (i 0).val

theorem zSrc_sub (i : grid0.Coords) (c : Fin 64) : (zSrc i c).view.set ⊆ zRows i := by
  intro x hx
  have h := (ValueKit.mem_set_slice_whole_iff main_arg0_scv (Rect.unit (s := S262144x32) (chOff i c) S128x32.size (chOff_inbZ i c)) x Rect.mem_set_unit).mp hx 0
  rw [chOff_eq] at h
  change base i + 128 * c.val ≤ (x 0).val ∧ (x 0).val < base i + 128 * c.val + 128 at h
  refine Finset.mem_filter.mpr ⟨Finset.mem_univ _, ?_⟩
  have := c.isLt
  simp only [base] at h; omega

theorem aSrc_sub (i : grid0.Coords) (c : Fin 64) : (aSrc i c).view.set ⊆ aRows i := by
  intro x hx
  have h := (ValueKit.mem_set_slice_whole_iff main_arg1_scv (Rect.unit (s := S262144x64) (chOff i c) S128x64.size (chOff_inbA i c)) x Rect.mem_set_unit).mp hx 0
  rw [chOff_eq] at h
  change base i + 128 * c.val ≤ (x 0).val ∧ (x 0).val < base i + 128 * c.val + 128 at h
  refine Finset.mem_filter.mpr ⟨Finset.mem_univ _, ?_⟩
  have := c.isLt
  simp only [base] at h; omega

/-! ## The lanes of a trip -/

theorem rows_base : ∀ (c : Fin 64) (t : Trip),
    (Scalar.addi (BitVec.ofNat 32 (128 * (c.val % 2))) (Scalar.muli (Scf.iv 0#32 1#32 t) 16#32)).toNat = 128 * (c.val % 2) + 16 * t.val := by
  decide +kernel

theorem trips_eq : k0_t1_loop.trips = 8 := by decide +kernel

theorem trip_lt (t : Trip) : t.val < 8 := lt_of_lt_of_eq t.isLt trips_eq

/-- Lane `x` of trip `t` of chunk `c` reads row `16 t + x` of the chunk's slot. -/
theorem rowsV_toNat (c : Fin 64) (t : Trip) (x : S16.Idx) : (rowsV c t x).toNat = 128 * (c.val % 2) + 16 * t.val + (x 0).val := by
  have hx : (x 0).val < 16 := (x 0).isLt
  have ht := trip_lt t
  have e : rowsV c t x = Scalar.addi (BitVec.ofNat 32 (128 * (c.val % 2))) (Scalar.muli (Scf.iv 0#32 1#32 t) 16#32) + BitVec.ofNat 32 (0 * 16 + (x 0).val) := rfl
  rw [e, BitVec.toNat_add, rows_base, BitVec.toNat_ofNat]
  omega

theorem chk1 (c : Fin 64) (t : Trip) : k0_chk1 colV (rowsV c t) := by
  intro a x
  have hx : (x 0).val < 16 := (x 0).isLt
  have ht := trip_lt t
  match a with
  | 0 => show (rowsV c t x).toNat < 256; rw [rowsV_toNat]; omega
  | 1 => show (8#32).toNat < 32; decide

theorem chk2 (c : Fin 64) (t : Trip) (ix : IVec S16 32) (h : ∀ x, (ix x).toNat < 64) : k0_chk2 (rowsV c t) ix := by
  intro a x
  have hx : (x 0).val < 16 := (x 0).isLt
  have ht := trip_lt t
  match a with
  | 0 => show (rowsV c t x).toNat < 256; rw [rowsV_toNat]; omega
  | 1 => exact h x

/-! ## The trip -/

/-- What the first gather of a trip reads: column 8 of the trip's rows of `z`. -/
theorem gather_z (i : grid0.Coords) {Z : ZBuf F} (c : Fin 64) (t : Trip) {cur : S256x32.Idx → Elt F .f32}
    (hcur : ∀ x ∈ (zDst c).view.set, cur x = zNew i Z c x) (h : ∀ a x, ((![rowsV c t, colV] : Fin 2 → IVec S16 32) a x).toNat < S256x32.size a) (x : S16.Idx) :
    loadIdx (s := S256x32) (F := F) (e := .f32) ((zB.access (.whole S256x32)).read (Elt F) cur) ![rowsV c t, colV] h x
      = Z (zAt (trow i (crow c (16 * t.val + (x 0).val))) 8) := by
  have hx : (x 0).val < 16 := (x 0).isLt
  have ht := trip_lt t
  show (zB.access (.whole S256x32)).read (Elt F) cur _ = _
  have e : (zB.access (.whole S256x32)).read (Elt F) cur = cur := Memref.read_access_whole (Elt F) cc0_scratch0 cur
  have er : (idxAt (s := S256x32) ![rowsV c t, colV] h x 0).val = 128 * (c.val % 2) + 16 * t.val + (x 0).val := rowsV_toNat c t x
  have ec : (idxAt (s := S256x32) ![rowsV c t, colV] h x 1) = (8 : Fin 32) := rfl
  rw [e, hcur _ ((mem_zDst c _).mpr (by rw [er]; omega))]
  unfold zNew
  rw [er, ec]
  refine congrArg (fun r => Z (zAt (trow i r) 8)) (Fin.ext ?_)
  show 128 * c.val + (128 * (c.val % 2) + 16 * t.val + (x 0).val) % 128 = 128 * c.val + (16 * t.val + (x 0).val) % 128
  omega

/-- What the second gather reads, at columns `ix`. -/
theorem gather_a (i : grid0.Coords) {A : ABuf F} (c : Fin 64) (t : Trip) {cur : S256x64.Idx → Elt F .f32} (ix : IVec S16 32)
    (hcur : ∀ x ∈ (aDst c).view.set, cur x = aNew i A c x) (h : ∀ a x, ((![rowsV c t, ix] : Fin 2 → IVec S16 32) a x).toNat < S256x64.size a) (x : S16.Idx) :
    loadIdx (s := S256x64) (F := F) (e := .f32) ((aB.access (.whole S256x64)).read (Elt F) cur) ![rowsV c t, ix] h x
      = A (aAt (trow i (crow c (16 * t.val + (x 0).val))) ⟨(ix x).toNat, h 1 x⟩) := by
  have hx : (x 0).val < 16 := (x 0).isLt
  have ht := trip_lt t
  show (aB.access (.whole S256x64)).read (Elt F) cur _ = _
  have e : (aB.access (.whole S256x64)).read (Elt F) cur = cur := Memref.read_access_whole (Elt F) cc0_scratch1 cur
  have er : (idxAt (s := S256x64) ![rowsV c t, ix] h x 0).val = 128 * (c.val % 2) + 16 * t.val + (x 0).val := rowsV_toNat c t x
  rw [e, hcur _ ((mem_aDst c _).mpr (by rw [er]; omega))]
  unfold aNew
  rw [er]
  refine congrArg (fun r => A (aAt (trow i r) _)) (Fin.ext ?_)
  show 128 * c.val + (128 * (c.val % 2) + 16 * t.val + (x 0).val) % 128 = 128 * c.val + (16 * t.val + (x 0).val) % 128
  omega

/-- Storing the sixteen entries of trip `t` of chunk `c` extends a result whose earlier entries are right. -/
theorem store_done (i : grid0.Coords) (c : Fin 64) (t : Trip) {G : Fin 8192 → Elt F .f32} {fo : S8192.Idx → Elt F .f32} {w : S16.Idx → Elt F .f32}
    (hfo : ∀ p : Fin 8192, p.val < 128 * c.val + 16 * t.val → fo (bAt p) = G p) (hw : ∀ x, w x = G (crow c (16 * t.val + (x 0).val))) :
    ∀ p : Fin 8192, p.val < 128 * c.val + 16 * (t.val + 1) →
      (oB.access (Rect.unit (s := S8192) (oOff c t) S16.size (oOff_inb c t))).write (Elt F) fo w Finset.univ (bAt p) = G p := by
  intro p hp
  have ht := trip_lt t
  by_cases h : p.val < 128 * c.val + 16 * t.val
  · rw [View.write_of_not_mem, hfo p h]
    rw [View.setOn_univ]
    intro hm
    have := (ValueKit.mem_set_slice_whole_iff cc0_scratch2 (Rect.unit (s := S8192) (oOff c t) S16.size (oOff_inb c t)) (bAt p) Rect.mem_set_unit).mp hm 0
    rw [oOff_eq] at this
    change 128 * c.val + 16 * t.val ≤ p.val ∧ _ at this
    omega
  · have hx : p.val - (128 * c.val + 16 * t.val) < 16 := by omega
    let x : S16.Idx := fun | 0 => ⟨p.val - (128 * c.val + 16 * t.val), hx⟩
    have e : bAt p = (oB.access (Rect.unit (s := S8192) (oOff c t) S16.size (oOff_inb c t))).emb x := by
      funext a
      match a with
      | 0 =>
        refine Fin.ext ?_
        refine Eq.trans ?_ ((ValueKit.view_emb_slice_whole_unit_val cc0_scratch2 (oOff c t) S16.size (oOff_inb c t) x 0).trans
          (congrArg (· + (x 0).val) (congrFun (oOff_eq c t) 0))).symm
        show p.val = 128 * c.val + 16 * t.val + (p.val - (128 * c.val + 16 * t.val)); omega
    rw [e, View.write_emb_of_mem _ _ (Finset.mem_univ _)]
    refine (hw x).trans (congrArg G (Fin.ext ?_))
    show 128 * c.val + (16 * t.val + (p.val - (128 * c.val + 16 * t.val))) % 128 = p.val
    omega

/-- The trip's operations one after the other. -/
theorem trip_ops (i : grid0.Coords) (c : Fin 64) (t : Trip) : trip (F := F) i c t =
    .op (.assume (k0_chk1 colV (rowsV c t)) (k0_chk1.dec colV (rowsV c t))) fun h1 =>
      SparseCore.vectorLoadIdx zB ![rowsV c t, colV] (k0_idx1_inb colV (rowsV c t) h1.down) (View.loads_vmem h_S256x32) >>= fun zv =>
        .op (.assume (k0_chk2 (rowsV c t) (fptosi 32 zv)) (k0_chk2.dec (rowsV c t) (fptosi 32 zv))) fun h2 =>
          SparseCore.vectorLoadIdx aB ![rowsV c t, fptosi 32 zv] (k0_idx2_inb (rowsV c t) (fptosi 32 zv) h2.down) (View.loads_vmem h_S256x64) >>= fun av =>
            .op (.load oB (Rect.unit (s := S8192) (oOff c t) S16.size (oOff_inb c t)).toLoadRect (View.loadsAt_vmem h_S16)) fun _ =>
              .op (.store oB (Rect.unit (s := S8192) (oOff c t) S16.size (oOff_inb c t)) (mulf av (broadcast S16 (Scalar.ofBits .f32 0x3F7FBE77#32))) Finset.univ
                (View.stores_vmem_bits_univ h_S16 rfl) (.inl rfl)) fun _ => .ret ⟨⟩ := rfl

section

variable (d : Dev nD) (i : grid0.Coords)

/-- The thread of tile `i`. -/
abbrev tv : Thread nD τ := V d ((i 0).castLE hcore0) ((i 1).castLE hsub0)

abbrev zBL : Loc nD τ sig := (tv d i).loc cc0_scratch0
abbrev aBL : Loc nD τ sig := (tv d i).loc cc0_scratch1
abbrev oBL : Loc nD τ sig := (tv d i).loc cc0_scratch2

/-- The tile's result so far: its first `n` entries hold what they should. -/
def Done (Z : ZBuf F) (A : ABuf F) (n : ℕ) : PP F :=
  iprop(∃ fo : Buf (Elt F) (oBL d i), ⌜∀ p : Fin 8192, p.val < n → fo (bAt p) = outV Z A (trow i p)⌝ ∗ (oBL d i ↦{fullShare} fo))

/-- What a trip of chunk `c` reads: the chunk's slots, the other slots in write mode at some share. -/
def Held (Z : ZBuf F) (A : ABuf F) (c : Fin 64) (Tz : Finset S256x32.Idx) (Ta : Finset S256x64.Idx) (q : PosShare TreeShare)
    (fz : Buf (Elt F) (zBL d i)) (fa : Buf (Elt F) (aBL d i)) (gz : Tgt (Elt F) (zBL d i)) (ga : Tgt (Elt F) (aBL d i)) : PP F :=
  iprop(((zBL d i ↦[(zDst c).view.set]{fullShare} zNew i Z c) ∗ willBeTo EW (zBL d i) Tz q fz gz ∅)
    ∗ ((aBL d i ↦[(aDst c).view.set]{fullShare} aNew i A c) ∗ willBeTo EW (aBL d i) Ta q fa ga ∅))

variable {d i}
variable {Z : ZBuf F} {A : ABuf F} (hcls : ∀ r, (cls Z r).toNat < 64) {ιwm : ℕ}
include hcls

/-- Trip `t` of chunk `c` extends the result by its sixteen entries. -/
theorem trip_wp (c : Fin 64) (t : Trip) {Tz : Finset S256x32.Idx} {Ta : Finset S256x64.Idx} {q : PosShare TreeShare}
    {fz : Buf (Elt F) (zBL d i)} {fa : Buf (Elt F) (aBL d i)} {gz : Tgt (Elt F) (zBL d i)} {ga : Tgt (Elt F) (aBL d i)}
    (hTz : Disjoint (zDst c).view.set Tz) (hTz' : (zDst c).view.set ∪ Tz = Finset.univ)
    (hTa : Disjoint (aDst c).view.set Ta) (hTa' : (aDst c).view.set ∪ Ta = Finset.univ) :
    (iprop(wmInv EW ιwm ∗ Held d i Z A c Tz Ta q fz fa gz ga ∗ Done d i Z A (128 * c.val + 16 * t.val)) : PP F)
      ⊢ wp frame (wpE (defs₀ (F := F)) 𝒱₀ (tv d i) none) Set.univ (trip i c t)
          fun _ => iprop(Held d i Z A c Tz Ta q fz fa gz ga ∗ Done d i Z A (128 * c.val + 16 * (t.val + 1))) := by
  have ht := trip_lt t
  unfold Held Done
  iintro ⟨#Hwm, ⟨⟨Hz, Hz'⟩, ⟨Ha, Ha'⟩⟩, ⟨%fo, %hfo, Ho⟩⟩
  rw [trip_ops]
  rw [wp_assume_of _ _ _ _ (chk1 c t)]
  iapply (Slot.wp_gather (emb := EW) 𝒱₀ (tv d i) none (b := zB) hTz hTz') $$ [Hz Hz']
  · isplitr; · iexact Hwm
    isplitl [Hz] <;> iassumption
  iintro %curz %hz ⟨Hz, Hz'⟩
  have hix : ∀ x, fptosi (F := F) 32 (loadIdx (s := S256x32) (F := F) (e := .f32) ((zB.access (.whole S256x32)).read (Elt F) curz) ![rowsV c t, colV]
      (k0_idx1_inb colV (rowsV c t) (chk1 c t))) x = cls Z (trow i (crow c (16 * t.val + (x 0).val))) := fun x =>
    congrArg (FloatOps.fptosi (F := F) (φ := .f32) 32) (gather_z i c t hz _ x)
  have h2 := chk2 c t _ (fun x => lt_of_eq_of_lt (congrArg BitVec.toNat (hix x)) (hcls _))
  rw [wp_assume_of _ _ _ _ h2]
  iapply (Slot.wp_gather (emb := EW) 𝒱₀ (tv d i) none (b := aB) hTa hTa') $$ [Ha Ha']
  · isplitr; · iexact Hwm
    isplitl [Ha] <;> iassumption
  iintro %cura %ha ⟨Ha, Ha'⟩
  iapply (wp_load 𝒱₀ (tv d i) none Set.univ (m := oB) (S := Finset.univ) (Finset.subset_univ _)) $$ Ho
  iintro Ho
  iapply (wp_store 𝒱₀ (tv d i) none Set.univ (m := oB) (r := Rect.unit (s := S8192) (oOff c t) S16.size (oOff_inb c t)) (Mk := Finset.univ) (S := Finset.univ)
    (Finset.subset_univ _)) $$ Ho
  iintro Ho
  rw [wp_ret]
  imodintro
  isplitr [Ho]
  · isplitl [Hz Hz']
    · isplitl [Hz] <;> iassumption
    isplitl [Ha] <;> iassumption
  iexists _
  isplitr
  swap; · iexact Ho
  ipureintro
  refine store_done i c t hfo fun x => ?_
  have hg := gather_a i (A := A) c t _ ha (k0_idx2_inb (rowsV c t) _ h2) x
  refine (congrArg (fun v => FloatOps.mulf (F := F) (φ := .f32) v (FloatOps.ofBits (F := F) .f32 0x3F7FBE77#32)) hg).trans ?_
  unfold outV
  refine congrArg (fun k => FloatOps.mulf (F := F) (φ := .f32) (A (aAt (trow i (crow c (16 * t.val + (x 0).val))) k)) _) (Fin.ext ?_)
  exact (congrArg BitVec.toNat (hix x)).trans (Nat.mod_eq_of_lt (hcls _)).symm

/-- The gather loop of chunk `c` extends the result by the chunk's 128 entries. -/
theorem loop_wp (c : Fin 64) {Tz : Finset S256x32.Idx} {Ta : Finset S256x64.Idx} {q : PosShare TreeShare}
    {fz : Buf (Elt F) (zBL d i)} {fa : Buf (Elt F) (aBL d i)} {gz : Tgt (Elt F) (zBL d i)} {ga : Tgt (Elt F) (aBL d i)}
    (hTz : Disjoint (zDst c).view.set Tz) (hTz' : (zDst c).view.set ∪ Tz = Finset.univ)
    (hTa : Disjoint (aDst c).view.set Ta) (hTa' : (aDst c).view.set ∪ Ta = Finset.univ)
    {α : Type} {k : PUnit → TP F i α} {Q : α → PP F} :
    (iprop(wmInv EW ιwm ∗ Held d i Z A c Tz Ta q fz fa gz ga ∗ Done d i Z A (128 * c.val)) : PP F)
      ⊢ iprop((iprop(Held d i Z A c Tz Ta q fz fa gz ga ∗ Done d i Z A (128 * (c.val + 1)))
            -∗ wp frame (wpE (defs₀ (F := F)) 𝒱₀ (tv d i) none) Set.univ (k ⟨⟩) Q)
          -∗ wp frame (wpE (defs₀ (F := F)) 𝒱₀ (tv d i) none) Set.univ (exec i (.lp c) >>= k) Q) := by
  iintro ⟨#Hwm, Hh, Hd⟩ Hk
  iapply (Scf.wp_for_bind frame (wpE (defs₀ (F := F)) 𝒱₀ (tv d i) none) Set.univ _ _ _ k0_t1_ok ⟨⟩ (fun t _ => trip i c t)
    (fun n _ => iprop(wmInv EW ιwm ∗ Held d i Z A c Tz Ta q fz fa gz ga ∗ Done d i Z A (128 * c.val + 16 * n))) ?_) $$ [Hh Hd]
  · intro t _
    iintro ⟨#Hwm, H⟩
    iapply (wp_wand_r frame (wpE (defs₀ (F := F)) 𝒱₀ (tv d i) none) Set.univ)
    isplitl [H]
    · iapply (trip_wp hcls c t hTz hTz' hTa hTa')
      isplitr; · iexact Hwm
      iexact H
    iintro %_ H
    isplitr; · iexact Hwm
    iexact H
  · isplitr; · iexact Hwm
    isplitl [Hh]; · iexact Hh
    iexact Hd
  iintro %_ ⟨-, Hh, Hd⟩
  iapply Hk
  isplitl [Hh]; · iexact Hh
  rw [show 128 * (c.val + 1) = 128 * c.val + 16 * k0_t1_loop.trips by rw [trips_eq]; omega]
  iexact Hd

end

end Cert.Proof
-- ==== Proof.Chunks.lean ====
/-
  The 64 chunks of a tile: while chunk `c` is gathered out of one slot of each scratch, the copies of chunk `c + 1` write the other
  slots. Between two chunks, one copy is in flight on each of the two cells and the tile's result holds the entries of the chunks before.
-/
module

public import proofs.«01_k».proof.Proof.Trip

@[expose] public section

noncomputable section

namespace Cert.Proof

open Cert.KernelIdeal Cert.KernelIdeal.Gen Cert.Proof.Text
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

/-! ## The two slots of a scratch -/

theorem next_mod : ∀ c : Fin 64, (c + 1).val % 2 = 1 - c.val % 2 := by decide

/-- The elements of the slot of chunk `c` in the scratch of `z`. -/
abbrev zSet (c : Fin 64) : Finset S256x32.Idx := (zDst c).view.set

theorem zSet_disj (c : Fin 64) : Disjoint (zSet c) (zSet (c + 1)) :=
  Finset.disjoint_left.mpr fun x h h' => by
    have h := (mem_zDst c x).mp h
    have h' := (mem_zDst (c + 1) x).mp h'
    rw [next_mod] at h'
    omega
theorem zSet_union (c : Fin 64) : zSet c ∪ zSet (c + 1) = Finset.univ :=
  Finset.eq_univ_iff_forall.mpr fun x => by
    have hx : (x 0).val < 256 := (x 0).isLt
    rw [Finset.mem_union, mem_zDst, mem_zDst, next_mod]
    omega
theorem zSet_skip (c : Fin 64) : zSet (c + 1 + 1) = zSet c :=
  Finset.ext fun x => by
    rw [mem_zDst, mem_zDst, next_mod, next_mod]
    omega

/-- The elements of the slot of chunk `c` in the scratch of `a`. -/
abbrev aSet (c : Fin 64) : Finset S256x64.Idx := (aDst c).view.set

theorem aSet_disj (c : Fin 64) : Disjoint (aSet c) (aSet (c + 1)) :=
  Finset.disjoint_left.mpr fun x h h' => by
    have h := (mem_aDst c x).mp h
    have h' := (mem_aDst (c + 1) x).mp h'
    rw [next_mod] at h'
    omega
theorem aSet_union (c : Fin 64) : aSet c ∪ aSet (c + 1) = Finset.univ :=
  Finset.eq_univ_iff_forall.mpr fun x => by
    have hx : (x 0).val < 256 := (x 0).isLt
    rw [Finset.mem_union, mem_aDst, mem_aDst, next_mod]
    omega
theorem aSet_skip (c : Fin 64) : aSet (c + 1 + 1) = aSet c :=
  Finset.ext fun x => by
    rw [mem_aDst, mem_aDst, next_mod, next_mod]
    omega

section

variable (d : Dev nD) (i : grid0.Coords)

/-- The arrays as the tile names them. -/
abbrev zTL : Loc nD τ sig := (tv d i).loc main_arg0_scv
abbrev aTL : Loc nD τ sig := (tv d i).loc main_arg1_scv
abbrev oTL : Loc nD τ sig := (tv d i).loc main_v0_scv

/-- How much a chunk's copy credits its cell. -/
abbrev zN : ℕ := (zDst 0).view.dmaCredit
abbrev aN : ℕ := (aDst 0).view.dmaCredit

/-- The copies of chunk `c` in flight, each out of the tile's rows of its array. -/
abbrev FlyZ (Z : ZBuf F) (c : Fin 64) : PP F :=
  Slot.Fly EW EC (tv d i) (.dma cc0_scratch3.sem) (default : HIx 1) zN (zSrc i c) (zRows i) fullShare Z (zDst c) (zNew i Z c)
abbrev FlyA (A : ABuf F) (c : Fin 64) : PP F :=
  Slot.Fly EW EC (tv d i) (.dma cc0_scratch4.sem) (default : HIx 1) aN (aSrc i c) (aRows i) fullShare A (aDst c) (aNew i A c)

/-- The slots that chunk `c`'s copies write, at some contents. -/
def FreeZ (c : Fin 64) : PP F := iprop(∃ f : Buf (Elt F) (zBL d i), zBL d i ↦[zSet c]{fullShare} f)
def FreeA (c : Fin 64) : PP F := iprop(∃ f : Buf (Elt F) (aBL d i), aBL d i ↦[aSet c]{fullShare} f)

/-- The tile before chunk `c` is waited for. -/
def Before (Z : ZBuf F) (A : ABuf F) (O : CellTallies nD τ sig (HIx 1)) (c : Fin 64) : PP F :=
  iprop((FlyZ d i Z c ∗ FlyA d i A c) ∗ (FreeZ d i (c + 1) ∗ FreeA d i (c + 1)) ∗ Done d i Z A (128 * c.val)
    ∗ ∃ W, owes (tv d i) O W)

/-- The tile once the last chunk is gathered. -/
def After (Z : ZBuf F) (A : ABuf F) (O : CellTallies nD τ sig (HIx 1)) : PP F :=
  iprop(((zTL d i ↦[zRows i]{fullShare} Z) ∗ (aTL d i ↦[aRows i]{fullShare} A))
    ∗ ((∃ f, zBL d i ↦{fullShare} f) ∗ (∃ f, aBL d i ↦{fullShare} f))
    ∗ (semVal (tv d i, .dma cc0_scratch3.sem) 0 ∗ semVal (tv d i, .dma cc0_scratch4.sem) 0) ∗ Done d i Z A 8192
    ∗ ∃ W, owes (tv d i) O W)

variable {d i}
variable {Z : ZBuf F} {A : ABuf F} {ιwm : ℕ} {O : CellTallies nD τ sig (HIx 1)} {α : Type} {Q : α → PP F}

/-- Starting the copies of chunk `c`. -/
theorem start_wp (c : Fin 64) {k : TP F i α} :
    (iprop(wmInv EW ιwm ∗ ((zTL d i ↦[zRows i]{fullShare} Z) ∗ (aTL d i ↦[aRows i]{fullShare} A)) ∗ (FreeZ d i c ∗ FreeA d i c)
        ∗ (semVal (tv d i, .dma cc0_scratch3.sem) 0 ∗ semVal (tv d i, .dma cc0_scratch4.sem) 0)) : PP F)
      ⊢ iprop(((FlyZ d i Z c ∗ FlyA d i A c) -∗ wp frame (wpE (defs₀ (F := F)) 𝒱₀ (tv d i) none) Set.univ k Q)
          -∗ wp frame (wpE (defs₀ (F := F)) 𝒱₀ (tv d i) none) Set.univ (seq i [.sz c, .sa c] k) Q) := by
  unfold FreeZ FreeA
  iintro ⟨#Hwm, ⟨Hz, Ha⟩, ⟨⟨%fz, Hfz⟩, ⟨%fa, Hfa⟩⟩, ⟨H3, H4⟩⟩ Hk
  iapply (Slot.wp_start (emb := EW) (EC := EC) (src := zSrc i c) (dst := zDst c) (sm := .dma cc0_scratch3.sem) (q := fullShare) (fs := Z) (fd := fz)
    (new := zNew i Z c) 𝒱₀ (tv d i) none (default : HIx 1) zN rfl (View.dmaCredit_pos _ (by decide)) (zSrc_sub i c) (read_zNew i Z c)) $$ [Hz Hfz H3]
  · isplitr; · iexact Hwm
    isplitl [Hz]; · iexact Hz
    isplitl [Hfz] <;> iassumption
  iintro Fz
  iapply (Slot.wp_start (emb := EW) (EC := EC) (src := aSrc i c) (dst := aDst c) (sm := .dma cc0_scratch4.sem) (q := fullShare) (fs := A) (fd := fa)
    (new := aNew i A c) 𝒱₀ (tv d i) none (default : HIx 1) aN rfl (View.dmaCredit_pos _ (by decide)) (aSrc_sub i c) (read_aNew i A c)) $$ [Ha Hfa H4]
  · isplitr; · iexact Hwm
    isplitl [Ha]; · iexact Ha
    isplitl [Hfa] <;> iassumption
  iintro Fa
  iapply Hk
  isplitl [Fz] <;> iassumption

/-- Waiting for the copies of chunk `c`. -/
theorem land_wp (c : Fin 64) {W : Waits sig (HIx 1)} {k : TP F i α} :
    (iprop(wmInv EW ιwm ∗ Transfers.MayWaits (tv d i) (default : HIx 1) O ∗ (FlyZ d i Z c ∗ FlyA d i A c) ∗ owes (tv d i) O W) : PP F)
      ⊢ iprop((iprop(((zTL d i ↦[zRows i]{fullShare} Z) ∗ (aTL d i ↦[aRows i]{fullShare} A))
            ∗ ((zBL d i ↦[zSet c]{fullShare} zNew i Z c) ∗ (aBL d i ↦[aSet c]{fullShare} aNew i A c))
            ∗ (semVal (tv d i, .dma cc0_scratch3.sem) 0 ∗ semVal (tv d i, .dma cc0_scratch4.sem) 0) ∗ ∃ W, owes (tv d i) O W)
            -∗ wp frame (wpE (defs₀ (F := F)) 𝒱₀ (tv d i) none) Set.univ k Q)
          -∗ wp frame (wpE (defs₀ (F := F)) 𝒱₀ (tv d i) none) Set.univ (seq i [.wz c, .wa c] k) Q) := by
  iintro ⟨#Hwm, #Hmw, ⟨Fz, Fa⟩, HO⟩ Hk
  iapply (Slot.wp_land (emb := EW) (EC := EC) (sem := cc0_scratch3.sem) (src := zSrc i c) (dst := zDst c) (q := fullShare) (fs := Z)
    (new := zNew i Z c) 𝒱₀ (tv d i) none (default : HIx 1) zN rfl (zSrc_sub i c)) $$ [Fz HO]
  · isplitr; · iexact Hwm
    isplitl [Fz]; · iexact Fz
    isplitl [HO]; · iexact HO
    iapply (Transfers.MayWaits.elim (.dma cc0_scratch3.sem)); iexact Hmw
  iintro ⟨Hz, Hsz, H3, HO⟩
  iapply (Slot.wp_land (emb := EW) (EC := EC) (sem := cc0_scratch4.sem) (src := aSrc i c) (dst := aDst c) (q := fullShare) (fs := A)
    (new := aNew i A c) 𝒱₀ (tv d i) none (default : HIx 1) aN rfl (aSrc_sub i c)) $$ [Fa HO]
  · isplitr; · iexact Hwm
    isplitl [Fa]; · iexact Fa
    isplitl [HO]; · iexact HO
    iapply (Transfers.MayWaits.elim (.dma cc0_scratch4.sem)); iexact Hmw
  iintro ⟨Ha, Hsa, H4, HO⟩
  iapply Hk
  isplitl [Hsz Hsa]
  · isplitl [Hsz] <;> iassumption
  isplitl [Hz Ha]
  · isplitl [Hz] <;> iassumption
  isplitl [H3 H4]
  · isplitl [H3] <;> iassumption
  iexists _; iexact HO

variable (hcls : ∀ r, (cls Z r).toNat < 64)
include hcls

/-- Gathering chunk `c` while chunk `c + 1` is in flight. -/
theorem gather_next (c : Fin 64) {k : TP F i α} :
    (iprop(wmInv EW ιwm ∗ ((zBL d i ↦[zSet c]{fullShare} zNew i Z c) ∗ (aBL d i ↦[aSet c]{fullShare} aNew i A c))
        ∗ (FlyZ d i Z (c + 1) ∗ FlyA d i A (c + 1)) ∗ Done d i Z A (128 * c.val)) : PP F)
      ⊢ iprop((iprop((FreeZ d i (c + 1 + 1) ∗ FreeA d i (c + 1 + 1)) ∗ (FlyZ d i Z (c + 1) ∗ FlyA d i A (c + 1)) ∗ Done d i Z A (128 * (c.val + 1)))
            -∗ wp frame (wpE (defs₀ (F := F)) 𝒱₀ (tv d i) none) Set.univ k Q)
          -∗ wp frame (wpE (defs₀ (F := F)) 𝒱₀ (tv d i) none) Set.univ (seq i [.lp c] k) Q) := by
  unfold FlyZ FlyA Slot.Fly
  iintro ⟨#Hwm, ⟨Hz, Ha⟩, ⟨⟨%fz, Fz, Wz, Rz⟩, ⟨%fa, Fa, Wa, Ra⟩⟩, Hd⟩ Hk
  iapply (loop_wp hcls c (zSet_disj c) (zSet_union c) (aSet_disj c) (aSet_union c)) $$ [Hz Ha Wz Wa Hd]
  · isplitr; · iexact Hwm
    isplitr [Hd]
    · unfold Held
      isplitl [Hz Wz]
      · isplitl [Hz] <;> iassumption
      isplitl [Ha] <;> iassumption
    iexact Hd
  unfold Held
  iintro ⟨⟨⟨Hz, Wz⟩, ⟨Ha, Wa⟩⟩, Hd⟩
  iapply Hk
  unfold FreeZ FreeA
  rw [zSet_skip, aSet_skip]
  isplitl [Hz Ha]
  · isplitl [Hz]
    · iexists _; iexact Hz
    iexists _; iexact Ha
  isplitr [Hd]
  · isplitl [Fz Wz Rz]
    · iexists fz
      isplitl [Fz]; · iexact Fz
      isplitl [Wz] <;> iassumption
    iexists fa
    isplitl [Fa]; · iexact Fa
    isplitl [Wa] <;> iassumption
  iexact Hd

/-- Gathering the last chunk, nothing in flight. -/
theorem gather_last (c : Fin 64) {k : TP F i α} :
    (iprop(wmInv EW ιwm ∗ ((zBL d i ↦[zSet c]{fullShare} zNew i Z c) ∗ (aBL d i ↦[aSet c]{fullShare} aNew i A c))
        ∗ (FreeZ d i (c + 1) ∗ FreeA d i (c + 1)) ∗ Done d i Z A (128 * c.val)) : PP F)
      ⊢ iprop((iprop(((∃ f, zBL d i ↦{fullShare} f) ∗ (∃ f, aBL d i ↦{fullShare} f)) ∗ Done d i Z A (128 * (c.val + 1)))
            -∗ wp frame (wpE (defs₀ (F := F)) 𝒱₀ (tv d i) none) Set.univ k Q)
          -∗ wp frame (wpE (defs₀ (F := F)) 𝒱₀ (tv d i) none) Set.univ (seq i [.lp c] k) Q) := by
  unfold FreeZ FreeA
  iintro ⟨#Hwm, ⟨Hz, Ha⟩, ⟨⟨%fz, Wz⟩, ⟨%fa, Wa⟩⟩, Hd⟩ Hk
  imod (pointsTo_castIn (emb := EW) (ιwm := ιwm) (E := Set.univ) (fun _ => none)) $$ [Wz] with Wz
  · isplitr; · iexact Hwm
    iexact Wz
  imod (pointsTo_castIn (emb := EW) (ιwm := ιwm) (E := Set.univ) (fun _ => none)) $$ [Wa] with Wa
  · isplitr; · iexact Hwm
    iexact Wa
  iapply (loop_wp hcls c (zSet_disj c) (zSet_union c) (aSet_disj c) (aSet_union c)) $$ [Hz Ha Wz Wa Hd]
  · isplitr; · iexact Hwm
    isplitr [Hd]
    · unfold Held
      isplitl [Hz Wz]
      · isplitl [Hz] <;> iassumption
      isplitl [Ha] <;> iassumption
    iexact Hd
  unfold Held
  iintro ⟨⟨⟨Hz, Wz⟩, ⟨Ha, Wa⟩⟩, Hd⟩
  imod (willBeTo_castOut (emb := EW) (ιwm := ιwm) (E := Set.univ)) $$ [Wz] with ⟨%gz, -, Wz⟩
  · isplitr; · iexact Hwm
    iexact Wz
  imod (willBeTo_castOut (emb := EW) (ιwm := ιwm) (E := Set.univ)) $$ [Wa] with ⟨%ga, -, Wa⟩
  · isplitr; · iexact Hwm
    iexact Wa
  ihave Hz := (pointsTo_join (ℓ := zBL d i) (zSet_disj c)) $$ [Hz Wz]
  · isplitl [Hz] <;> iassumption
  ihave Ha := (pointsTo_join (ℓ := aBL d i) (aSet_disj c)) $$ [Ha Wa]
  · isplitl [Ha] <;> iassumption
  rw [zSet_union, aSet_union]
  iapply Hk
  isplitr [Hd]
  · isplitl [Hz]
    · iexists _; iexact Hz
    iexists _; iexact Ha
  iexact Hd

/-- All chunks from `c` on. -/
theorem rest_wp : ∀ (n : ℕ) (c : Fin 64), c.val + n = 63 → ∀ {k : TP F i α},
    (iprop(wmInv EW ιwm ∗ Transfers.MayWaits (tv d i) (default : HIx 1) O ∗ Before d i Z A O c) : PP F)
      ⊢ iprop((After d i Z A O -∗ wp frame (wpE (defs₀ (F := F)) 𝒱₀ (tv d i) none) Set.univ k Q)
          -∗ wp frame (wpE (defs₀ (F := F)) 𝒱₀ (tv d i) none) Set.univ (seq i (rest n c) k) Q)
  | 0, c, hc, k => by
    unfold Before After
    iintro ⟨#Hwm, #Hmw, Hf, Hs, Hd, ⟨%W, HO⟩⟩ Hk
    iapply (land_wp c (k := seq i [.lp c] k)) $$ [Hf HO]
    · isplitr; · iexact Hwm
      isplitr; · iexact Hmw
      isplitl [Hf] <;> iassumption
    iintro ⟨Hr, Hn, Hv, HO⟩
    iapply (gather_last hcls c (k := k)) $$ [Hn Hs Hd]
    · isplitr; · iexact Hwm
      isplitl [Hn]; · iexact Hn
      isplitl [Hs] <;> iassumption
    rw [show 128 * (c.val + 1) = 8192 by omega]
    iintro ⟨Hb, Hd⟩
    iapply Hk
    isplitl [Hr]; · iexact Hr
    isplitl [Hb]; · iexact Hb
    isplitl [Hv]; · iexact Hv
    isplitl [Hd] <;> iassumption
  | n + 1, c, hc, k => by
    have e : (c + 1).val = c.val + 1 := by
      rw [Fin.val_add]
      have e : ((1 : Fin 64) : ℕ) = 1 := rfl
      omega
    have ih := rest_wp n (c + 1) (by omega) (k := k)
    unfold Before at ih ⊢
    rw [e] at ih
    iintro ⟨#Hwm, #Hmw, Hf, Hs, Hd, ⟨%W, HO⟩⟩ Hk
    iapply (land_wp c (k := seq i [.sz (c + 1), .sa (c + 1)] (seq i [.lp c] (seq i (rest n (c + 1)) k)))) $$ [Hf HO]
    · isplitr; · iexact Hwm
      isplitr; · iexact Hmw
      isplitl [Hf] <;> iassumption
    iintro ⟨Hr, Hn, Hv, HO⟩
    iapply (start_wp (c + 1) (k := seq i [.lp c] (seq i (rest n (c + 1)) k))) $$ [Hr Hs Hv]
    · isplitr; · iexact Hwm
      isplitl [Hr]; · iexact Hr
      isplitl [Hs] <;> iassumption
    iintro Hf
    iapply (gather_next hcls c (k := seq i (rest n (c + 1)) k)) $$ [Hn Hf Hd]
    · isplitr; · iexact Hwm
      isplitl [Hn]; · iexact Hn
      isplitl [Hf] <;> iassumption
    iintro ⟨Hs, Hf, Hd⟩
    iapply ih $$ [Hs Hf Hd HO]
    · isplitr; · iexact Hwm
      isplitr; · iexact Hmw
      isplitl [Hf]; · iexact Hf
      isplitl [Hs]; · iexact Hs
      isplitl [Hd] <;> iassumption
    iexact Hk

end

end Cert.Proof
-- ==== Proof.Tile.lean ====
/-
  One tile's whole task: from its rows of the three arrays, its scratches and its cells, to the same with its rows of the result holding
  what they should.
-/
module

public import proofs.«01_k».proof.Proof.Chunks

@[expose] public section

noncomputable section

namespace Cert.Proof

open Cert.KernelIdeal Cert.KernelIdeal.Gen Cert.Proof.Text
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The copy of the result -/

/-- The tile's rows of the output. -/
abbrev oDst (i : grid0.Coords) : Memref sig .scVector .hbm S8192 .f32 :=
  oM.slice (Rect.unit (s := S262144) (k0_off69 i) S8192.size (k0_off69_inb i)) (fun _ => rfl)

theorem oDst_set (i : grid0.Coords) : (oDst i).view.set = oRows i :=
  Finset.ext fun (x : S262144.Idx) => by
    have h1 : (i 1).val < 16 := (i 1).isLt
    have h0 : (i 0).val < 2 := (i 0).isLt
    refine (ValueKit.mem_set_slice_whole_iff main_v0_scv (Rect.unit (s := S262144) (k0_off69 i) S8192.size (k0_off69_inb i)) x Rect.mem_set_unit).trans ?_
    rw [k0_off69_eq, oRows, Finset.mem_filter]
    constructor
    · intro h
      have := h 0
      change base i ≤ (x 0).val ∧ (x 0).val < base i + 8192 at this
      refine ⟨Finset.mem_univ _, ?_⟩
      simp only [base] at this; omega
    · intro h a
      match a with
      | 0 =>
        show base i ≤ (x 0).val ∧ (x 0).val < base i + 8192
        have := h.2
        simp only [base]; omega

/-- A finished result, copied to the tile's rows, is the result array there. -/
theorem write_out (i : grid0.Coords) {Z : ZBuf F} {A : ABuf F} {fo : S8192.Idx → Elt F .f32}
    (hfo : ∀ p : Fin 8192, p.val < 8192 → fo (bAt p) = outV Z A (trow i p)) (f : OBuf F) (x : S262144.Idx) (hx : x ∈ oRows i) :
    (oDst i).view.write (Elt F) f (oB.view.read (Elt F) fo) Finset.univ x = outB Z A x := by
  rw [← oDst_set i] at hx
  obtain ⟨p, -, rfl⟩ := Finset.mem_map.mp hx
  rw [View.write_emb_of_mem _ _ (Finset.mem_univ _)]
  have e := ValueKit.view_emb_slice_whole_unit_val main_v0_scv (k0_off69 i) S8192.size (k0_off69_inb i) p 0
  have ep : p = bAt (p 0) := by
    funext a
    match a with
    | 0 => rfl
  have er : oB.view.read (Elt F) fo p = fo p := congrFun (View.read_whole (Val := Elt F) cc0_scratch2 fo) p
  rw [er, ep, hfo (p 0) (p 0).isLt]
  refine congrArg (outV Z A) (Fin.ext ?_)
  refine Eq.trans ?_ (e.trans (congrArg (· + (p 0).val) (congrFun (k0_off69_eq i) 0))).symm
  rfl

section

variable (d : Dev nD) (i : grid0.Coords)
variable {Z : ZBuf F} {A : ABuf F} {ιwm : ℕ} {O : CellTallies nD τ sig (HIx 1)}

variable {d i}

theorem fin_wp {W : Waits sig (HIx 1)} {f : Buf (Elt F) (oTL d i)} {Q : PUnit → PP F} :
    (iprop(Transfers.MayWaits (tv d i) (default : HIx 1) O ∗ (oTL d i ↦[oRows i]{fullShare} f) ∗ Done d i Z A 8192
        ∗ semVal (tv d i, .dma cc0_scoped0.sem) 0 ∗ owes (tv d i) O W) : PP F)
      ⊢ iprop((iprop((oTL d i ↦[oRows i]{fullShare} outB Z A) ∗ (∃ f, oBL d i ↦{fullShare} f)
            ∗ semVal (tv d i, .dma cc0_scoped0.sem) 0 ∗ ∃ W, owes (tv d i) O W) -∗ Q ⟨⟩)
          -∗ wp frame (wpE (defs₀ (F := F)) 𝒱₀ (tv d i) none) Set.univ (fin i) Q) := by
  unfold Done
  iintro ⟨#Hmw, Ho, ⟨%fo, %hfo, Hb⟩, Hv, HO⟩ Hk
  have hw := write_out i hfo f
  have hs : oB.view.set = Finset.univ := View.set_whole cc0_scratch2
  iapply (Transfers.wp_dmaLocal EC 𝒱₀ (tv d i) none (src := oB) (dst := oDst i) (via := .same) (sm := .dma cc0_scoped0.sem) (q := fullShare) (fs := fo) (fd := f)
    (default : HIx 1) (oDst i).view.dmaCredit rfl (View.dmaCredit_pos _ (by decide)) (oDst_set i).subset) $$ [Ho Hb Hv]
  · isplitl [Hb]; · rw [hs]; iexact Hb
    isplitl [Ho]; · iexact Ho
    iexact Hv
  iintro Hf
  iapply (Transfers.wp_waitLocalO EC 𝒱₀ (tv d i) none (default : HIx 1) rfl) $$ [Hf HO]
  · isplitl [Hf]; · iexact Hf
    isplitl [HO]; · iexact HO
    iapply (Transfers.MayWaits.elim (.dma cc0_scoped0.sem)); iexact Hmw
  iintro ⟨⟨Ho, Hb⟩, Hv, HO⟩
  rw [show ((Prog.ret PUnit.unit).bind fun _ => (pure PUnit.unit : TP F i PUnit)) = Prog.ret PUnit.unit from rfl, wp_ret]
  imodintro
  iapply Hk
  isplitl [Ho]
  · iapply (Entails.of_eq (pointsTo_congr hw)); iexact Ho
  isplitl [Hb]; · iexists fo; rw [← hs]; iexact Hb
  isplitl [Hv]; · iexact Hv
  iexists _; iexact HO

/-! ## The tile's own buffers and cells -/

variable (d i)

/-- The tile's cells are the three the body names and the rest. -/
theorem ownSems0_V :
    (ownSems0 (tv d i) : PP F)
      = iprop(semVal (tv d i, .dma cc0_scratch3.sem) 0 ∗ semVal (tv d i, .dma cc0_scratch4.sem) 0 ∗ semVal (tv d i, .dma cc0_scoped0.sem) 0
          ∗ bigSep ((((ownCells (tv d i)).erase (tv d i, .dma cc0_scratch3.sem)).erase (tv d i, .dma cc0_scratch4.sem)).erase
              (tv d i, .dma cc0_scoped0.sem)) fun g => semVal g 0) := by
  unfold SparseCore.Cfg.ownSems0
  rw [SparseCore.bigSep_erase' ((mem_ownCells (g := (tv d i, .dma cc0_scratch3.sem))).mpr ⟨rfl, by
      show (SemLoc.dma cc0_scratch3.sem : SemLoc sig).isScoped .scVector = true; decide⟩),
    SparseCore.bigSep_erase' (Finset.mem_erase.mpr ⟨by simp; decide, (mem_ownCells (g := (tv d i, .dma cc0_scratch4.sem))).mpr ⟨rfl, by
      show (SemLoc.dma cc0_scratch4.sem : SemLoc sig).isScoped .scVector = true; decide⟩⟩),
    SparseCore.bigSep_erase' (Finset.mem_erase.mpr ⟨by simp; decide, Finset.mem_erase.mpr ⟨by simp; decide,
      (mem_ownCells (g := (tv d i, .dma cc0_scoped0.sem))).mpr ⟨rfl, by show (SemLoc.dma cc0_scoped0.sem : SemLoc sig).isScoped .scVector = true; decide⟩⟩⟩)]

/-- The tile's buffers are the three scratches and the rest. -/
theorem ownBufs_V :
    (ownBufs (tv d i) : PP F)
      = iprop((∃ f, zBL d i ↦{fullShare} f) ∗ (∃ f, aBL d i ↦{fullShare} f) ∗ (∃ f, oBL d i ↦{fullShare} f)
          ∗ bigSep ((((ownRefs (τ := τ) (tv d i).2).erase ((tv d i).2.devRef cc0_scratch0)).erase
              ((tv d i).2.devRef cc0_scratch1)).erase ((tv d i).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (tv d i).2) (b := (tv d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (tv d i).2) (b := (tv d i).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := (tv d i).2) (b := (tv d i).2.devRef cc0_scratch2) rfl⟩⟩)]

variable {d i}

/-- A scratch whole is its two slots. -/
theorem free_z (f : Buf (Elt F) (zBL d i)) : (zBL d i ↦{fullShare} f : PP F) ⊢ iprop(FreeZ d i 0 ∗ FreeZ d i (0 + 1)) := by
  unfold FreeZ
  iintro H
  have e : (zBL d i ↦{fullShare} f : PP F) = (zBL d i ↦[zSet 0 ∪ zSet (0 + 1)]{fullShare} f) := by rw [zSet_union]
  ihave H := (Entails.of_eq e) $$ H
  ihave H := (pointsTo_union (ℓ := zBL d i) (zSet_disj 0)).1 $$ H
  icases H with ⟨H, H'⟩
  isplitl [H]
  · iexists _; iexact H
  iexists _; iexact H'
theorem free_a (f : Buf (Elt F) (aBL d i)) : (aBL d i ↦{fullShare} f : PP F) ⊢ iprop(FreeA d i 0 ∗ FreeA d i (0 + 1)) := by
  unfold FreeA
  iintro H
  have e : (aBL d i ↦{fullShare} f : PP F) = (aBL d i ↦[aSet 0 ∪ aSet (0 + 1)]{fullShare} f) := by rw [aSet_union]
  ihave H := (Entails.of_eq e) $$ H
  ihave H := (pointsTo_union (ℓ := aBL d i) (aSet_disj 0)).1 $$ H
  icases H with ⟨H, H'⟩
  isplitl [H]
  · iexists _; iexact H
  iexists _; iexact H'

/-- The task of tile `i`. -/
theorem tile_body (hF : (K (F := F)).Facts) (hcls : ∀ r, (cls Z r).toNat < 64) {f : OBuf F} (O : CellTallies nD τ sig (HIx 1)) (W : Waits sig (HIx 1))
    (hO : ∀ g, O g none = 0) :
    (iprop(levAts (K (F := F)).L (K (F := F)).lev ∗ (∃ ιwm, wmInv EW ιwm)
        ∗ ((zLoc d ↦[zRows i]{fullShare} Z) ∗ (aLoc d ↦[aRows i]{fullShare} A) ∗ (oLoc d ↦[oRows i]{fullShare} f))
        ∗ scopedBufs (tv d i) ∗ scopedSems0 (tv d i) ∗ owes (tv d i) O W) : PP F)
      ⊢ wp frame (wpE (defs₀ (F := F)) 𝒱₀ (tv d i) none) Set.univ
          (cc0_k (F := F) i zM (Memref.isWhole_whole _) aM (Memref.isWhole_whole _) oM (Memref.isWhole_whole _) zB (Memref.isWhole_whole _)
            aB (Memref.isWhole_whole _) oB (Memref.isWhole_whole _) cc0_scratch3 cc0_scratch4 cc0_scoped0)
          fun _ => iprop(((zLoc d ↦[zRows i]{fullShare} Z) ∗ (aLoc d ↦[aRows i]{fullShare} A) ∗ (oLoc d ↦[oRows i]{fullShare} outB Z A))
            ∗ scopedBufs (tv d i) ∗ scopedSems0 (tv d i)
            ∗ ∃ W', ⌜∀ p ∈ W', p ∈ W ∨ p.2 = none ∨ p.2 = some (0 : Fin 1)⌝ ∗ owes (tv d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V, body_eq]
  iintro ⟨#Hlv, ⟨%ιwm, #Hwm⟩, ⟨Hz, Ha, Ho⟩, ⟨⟨%fz, Hfz⟩, ⟨%fa, Hfa⟩, ⟨%fo, Hfo⟩, Hbufs⟩, ⟨H3, H4, H0, Hsems⟩, HO⟩
  ihave Hmw := (show levAts (K (F := F)).L (K (F := F)).lev ⊢ Transfers.MayWaits (tv d i) (default : HIx 1) O from
    (K (F := F)).mayWaits_none (thr := tv d i) hO) $$ Hlv
  icases Hmw with #Hmw
  ihave Hfz := (free_z fz) $$ Hfz
  ihave Hfa := (free_a fa) $$ Hfa
  icases Hfz with ⟨Hz0, Hz1⟩
  icases Hfa with ⟨Ha0, Ha1⟩
  iapply (start_wp (ιwm := ιwm) (Z := Z) (A := A) 0 (k := seq i (rest 63 0) (fin i))) $$ [Hz Ha Hz0 Ha0 H3 H4]
  · isplitr; · iexact Hwm
    isplitl [Hz Ha]
    · isplitl [Hz] <;> iassumption
    isplitl [Hz0 Ha0]
    · isplitl [Hz0] <;> iassumption
    isplitl [H3] <;> iassumption
  iintro Hf
  iapply (rest_wp (ιwm := ιwm) (Z := Z) (A := A) (O := O) hcls 63 0 rfl (k := fin i)) $$ [Hf Hz1 Ha1 Hfo HO]
  · isplitr; · iexact Hwm
    isplitr; · iexact Hmw
    unfold Before Done
    isplitl [Hf]; · iexact Hf
    isplitl [Hz1 Ha1]
    · isplitl [Hz1] <;> iassumption
    isplitl [Hfo]
    · iexists fo
      isplitr
      · ipureintro; intro p hp; exact absurd hp (Nat.not_lt_zero _)
      iexact Hfo
    iexists _; iexact HO
  unfold After
  iintro ⟨⟨Hz, Ha⟩, ⟨Hfz, Hfa⟩, ⟨H3, H4⟩, Hd, ⟨%W', HO⟩⟩
  iapply (fin_wp (O := O) (Z := Z) (A := A)) $$ [Ho Hd H0 HO]
  · isplitr; · iexact Hmw
    isplitl [Ho]; · iexact Ho
    isplitl [Hd]; · iexact Hd
    isplitl [H0] <;> iassumption
  iintro ⟨Ho, Hfo, H0, ⟨%W'', HO⟩⟩
  isplitl [Hz Ha Ho]
  · isplitl [Hz]; · iexact Hz
    isplitl [Ha] <;> iassumption
  isplitl [Hfz Hfa Hfo Hbufs]
  · isplitl [Hfz]; · iexact Hfz
    isplitl [Hfa]; · iexact Hfa
    isplitl [Hfo] <;> iassumption
  isplitl [H3 H4 H0 Hsems]
  · isplitl [H3]; · iexact H3
    isplitl [H4]; · iexact H4
    isplitl [H0] <;> iassumption
  iexists W''
  isplitr
  swap; · iexact HO
  ipureintro; intro p _
  rcases p.2 with _ | q
  · exact .inr (.inl rfl)
  · exact .inr (.inr (congrArg some (Subsingleton.elim q 0)))

end

end Cert.Proof
-- ==== Proof.Launch.lean ====
/-
  The launch: the call deals every SparseCore the rows of its sixteen tiles, the SparseCore deals every tile its 8192 rows, and the rows
  come back with the result in them.
-/
module

public import proofs.«01_k».proof.Proof.Tile

@[expose] public section

noncomputable section

namespace Cert.Proof

open Cert.KernelIdeal Cert.KernelIdeal.Gen Cert.Proof.Text
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Rows by core and by tile -/

/-- The tile of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

section Split

variable {ℓ : Loc nD τ sig} (k : Idx ℓ → ℕ)

/-- The elements of an array in the blocks of core `c`, the block of an element being `k` of it. -/
def coreSet (c : Fin 2) : Finset (Idx ℓ) := Finset.univ.filter fun x => k x % 2 = c.val
/-- The elements in block `2 s + c`. -/
def tileSet (c : Fin 2) (s : Fin 16) : Finset (Idx ℓ) := Finset.univ.filter fun x => k x = 2 * s.val + c.val

/-- The array is its two cores' blocks. -/
theorem whole_cores (f : Buf (Elt F) ℓ) :
    (ℓ ↦{fullShare} f : PP F) = bigSep Finset.univ fun c : Fin 2 => ℓ ↦[coreSet k c]{fullShare} f := by
  rw [← pointsTo_biUnion Finset.univ (ℓ := ℓ) (coreSet k) fun c _ c' _ h => Finset.disjoint_left.mpr fun x hx hx' =>
    h (Fin.ext ((Finset.mem_filter.mp hx).2.symm.trans (Finset.mem_filter.mp hx').2))]
  congr 1
  refine (Finset.eq_univ_iff_forall.mpr fun x => ?_).symm
  exact Finset.mem_biUnion.mpr ⟨⟨k x % 2, Nat.mod_lt _ (by decide)⟩, Finset.mem_univ _, Finset.mem_filter.mpr ⟨Finset.mem_univ _, rfl⟩⟩

/-- A core's blocks are its sixteen tiles' blocks. -/
theorem core_tiles (hk : ∀ x, k x < 32) (c : Fin 2) (f : Buf (Elt F) ℓ) :
    (ℓ ↦[coreSet k c]{fullShare} f : PP F) = bigSep Finset.univ fun s : Fin 16 => ℓ ↦[tileSet k c s]{fullShare} f := by
  rw [← pointsTo_biUnion Finset.univ (ℓ := ℓ) (tileSet k c) fun s _ s' _ h => Finset.disjoint_left.mpr fun x hx hx' =>
    h (Fin.ext (by have := (Finset.mem_filter.mp hx).2; have := (Finset.mem_filter.mp hx').2; omega))]
  congr 1
  refine Finset.ext fun x => ?_
  have hx := hk x
  have hc := c.isLt
  constructor
  · intro h
    have := (Finset.mem_filter.mp h).2
    exact Finset.mem_biUnion.mpr ⟨⟨k x / 2, by omega⟩, Finset.mem_univ _, Finset.mem_filter.mpr ⟨Finset.mem_univ _, by show k x = 2 * (k x / 2) + c.val; omega⟩⟩
  · intro h
    obtain ⟨s, -, h⟩ := Finset.mem_biUnion.mp h
    have := (Finset.mem_filter.mp h).2
    exact Finset.mem_filter.mpr ⟨Finset.mem_univ _, by omega⟩

end Split

/-- The block of an element: its row over 8192. -/
def zBlk (x : S262144x32.Idx) : ℕ := (x 0).val / 8192
def aBlk (x : S262144x64.Idx) : ℕ := (x 0).val / 8192
def oBlk (x : S262144.Idx) : ℕ := (x 0).val / 8192
theorem zBlk_lt (x : S262144x32.Idx) : zBlk x < 32 := by have h : (x 0).val < 262144 := (x 0).isLt; unfold zBlk; omega
theorem aBlk_lt (x : S262144x64.Idx) : aBlk x < 32 := by have h : (x 0).val < 262144 := (x 0).isLt; unfold aBlk; omega
theorem oBlk_lt (x : S262144.Idx) : oBlk x < 32 := by have h : (x 0).val < 262144 := (x 0).isLt; unfold oBlk; omega

/-! ## What the handshakes carry -/

variable (m : (ℓ : Loc nD τ sig) → Buf (Elt F) ℓ) (ρ : Dev nD → PrngReg)

/-- The result, of the arguments at launch. -/
abbrev res (d : Dev nD) : OBuf F := outB (m (zLoc d)) (m (aLoc d))

/-- The three arrays, a core's blocks of them, a tile's block of them; the result at `f`. -/
def allPts (d : Dev nD) (f : OBuf F) : PP F :=
  iprop((zLoc d ↦{fullShare} m (zLoc d)) ∗ (aLoc d ↦{fullShare} m (aLoc d)) ∗ (oLoc d ↦{fullShare} f))
def corePts (d : Dev nD) (f : OBuf F) (c : Fin 2) : PP F :=
  iprop((zLoc d ↦[coreSet (ℓ := zLoc d) zBlk c]{fullShare} m (zLoc d)) ∗ (aLoc d ↦[coreSet (ℓ := aLoc d) aBlk c]{fullShare} m (aLoc d))
    ∗ (oLoc d ↦[coreSet (ℓ := oLoc d) oBlk c]{fullShare} f))
def tilePts (d : Dev nD) (f : OBuf F) (c : Fin 2) (s : Fin 16) : PP F :=
  iprop((zLoc d ↦[tileSet (ℓ := zLoc d) zBlk c s]{fullShare} m (zLoc d)) ∗ (aLoc d ↦[tileSet (ℓ := aLoc d) aBlk c s]{fullShare} m (aLoc d))
    ∗ (oLoc d ↦[tileSet (ℓ := oLoc d) oBlk c s]{fullShare} f))

theorem all_cores (d : Dev nD) (f : OBuf F) : allPts m d f = bigSep Finset.univ (corePts m d f) := by
  unfold allPts corePts
  rw [bigSep_sep', bigSep_sep', ← whole_cores (ℓ := zLoc d), ← whole_cores (ℓ := aLoc d), ← whole_cores (ℓ := oLoc d)]
theorem core_all_tiles (d : Dev nD) (f : OBuf F) (c : Fin 2) : corePts m d f c = bigSep Finset.univ (tilePts m d f c) := by
  unfold corePts tilePts
  rw [bigSep_sep', bigSep_sep', ← core_tiles (ℓ := zLoc d) _ zBlk_lt, ← core_tiles (ℓ := aLoc d) _ aBlk_lt, ← core_tiles (ℓ := oLoc d) _ oBlk_lt]

instance corePts_storable (d : Dev nD) (f : OBuf F) (c : Fin 2) : BI.Storable (upEmb : UEmb _ (MT nD τ sig (HIx 1) (Elt F) ℕ (UU F) ℕ)) (corePts m d f c) := by
  unfold corePts; infer_instance
instance tilePts_storable (d : Dev nD) (f : OBuf F) (c : Fin 2) (s : Fin 16) :
    BI.Storable (upEmb : UEmb _ (MT nD τ sig (HIx 1) (Elt F) ℕ (UU F) ℕ)) (tilePts m d f c s) := by
  unfold tilePts; infer_instance

/-- The call takes each core's blocks and each tile's block, the result at its first contents, and brings them back with the result
    written; every thread knows write mode. -/
def P : (K (F := F)).Pay (nD := nD) (Val := Elt F) (Name := ℕ) (U := UU F) where
  st := fun q d c => match q with | 0 => corePts m d (m (oLoc d)) (Fin.cast nCore_zero c)
  dn := fun q d c => match q with | 0 => corePts m d (res m d) (Fin.cast nCore_zero c)
  go := fun q d c i => match q with | 0 => tilePts m d (m (oLoc d)) (Fin.cast nCore_zero c) (Fin.cast nSub_zero i)
  td := fun q d c i => match q with | 0 => tilePts m d (res m d) (Fin.cast nCore_zero c) (Fin.cast nSub_zero i)
  x := fun _ _ => iprop(∃ ιwm : ℕ, wmInv EW ιwm)

instance P_storable : (P (F := F) m).IsStorable where
  st q d c := match q with | 0 => corePts_storable m d _ _
  dn q d c := match q with | 0 => corePts_storable m d _ _
  go q d c i := match q with | 0 => tilePts_storable m d _ _ _
  td q d c i := match q with | 0 => tilePts_storable m d _ _ _

/-! ## The obligations -/

theorem defs₀_vector (c : Fin τ.nSC) (s : Fin τ.nSub) :
    defs₀ (F := F) (.scVector c s) 0 ()
      = SparseCore.onTile hcore0 hsub0 (fun c s => cc0_k (F := F) (coordsV c s) zM (Memref.isWhole_whole _) aM (Memref.isWhole_whole _) oM (Memref.isWhole_whole _)
          zB (Memref.isWhole_whole _) aB (Memref.isWhole_whole _) oB (Memref.isWhole_whole _) cc0_scratch3 cc0_scratch4 cc0_scoped0) ⟨⟩ c s := rfl

variable (hcls : ∀ (d : Dev nD) r, (cls (m (zLoc d)) r).toNat < 64)

include hcls in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (d := d) (i := coordsV ⟨_, hci.1⟩ ⟨_, hci.2⟩) hF (hcls d) O W hO

theorem bigSep_cores (Φ : Fin 2 → PP F) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → PP F) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show corePts m d (m (oLoc d)) (Fin.cast nCore_zero c) ⊢ |={Set.univ}=> iprop(
      (bigSep Finset.univ fun i : Fin ((K (F := F)).nSub 0) => tilePts m d (m (oLoc d)) (Fin.cast nCore_zero c) (Fin.cast nSub_zero i))
      ∗ ((bigSep Finset.univ fun i : Fin ((K (F := F)).nSub 0) => tilePts m d (res m d) (Fin.cast nCore_zero c) (Fin.cast nSub_zero i))
          -∗ corePts m d (res m d) (Fin.cast nCore_zero c)))
  rw [bigSep_tasks (F := F) (tilePts m d (m (oLoc d)) (Fin.cast nCore_zero c)), bigSep_tasks (F := F) (tilePts m d (res m d) (Fin.cast nCore_zero c)),
    ← core_all_tiles, ← core_all_tiles]
  iintro H; imodintro
  isplitl [H]; · iexact H
  iintro H; iexact H

/-! ## The launch element -/

/-- The handshakes' rounds, and write mode with nothing in it. -/
def u₀ : UU F := (initOf (K (F := F)).hsCells (K (F := F)).hsToks, (wm₀ nD τ sig (Elt F), 1))

include ρ in
theorem hu₀ : (ownU (u₀ (F := F)) : PP F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) ((wm₀ nD τ sig (Elt F), 1) : UW F)) $$ Hu
  icases H with ⟨HH, Hw⟩
  ihave Hw := (show (BI.own (embR ((wm₀ nD τ sig (Elt F), 1) : UW F)) : PP F) ⊢ ownU (EW (wm₀ nD τ sig (Elt F))) from BI.Entails.refl _) $$ Hw
  imod (wmInv_alloc (emb := EW) ⟨m, fun _ => 0, ρ⟩) $$ Hw with ⟨%ιwm, -, #Hwm⟩
  imodintro
  isplitl [HH]; · iexact HH
  isplitr
  · rw [show (bigSep Finset.univ fun _ : Dev nD => iprop(emp)) = (iprop(emp) : PP F) from bigSep_emp_const _]
    iempintro
  rw [show (bigSep Finset.univ fun thr : Thread nD τ => bigSep Finset.univ fun q : Fin 1 => (P (F := F) m).x q thr)
    = bigSep Finset.univ fun _ : Thread nD τ => iprop(∃ ιwm : ℕ, wmInv EW ιwm) from bigSep_congr fun _ _ => bigSep_univ_of_subsingleton (0 : Fin 1)]
  iapply (bigSep_of_persistent Finset.univ)
  iexists ιwm; iexact Hwm

/-! ## @main on the TensorCore -/

theorem unscopedBufs_eq (d : Dev nD) (W : (b : Ref sig .tc) → Buf (Elt F) ((d.tc : Thread nD τ).loc b)) :
    (unscopedBufs d W : PP F)
      = iprop((zLoc d ↦{fullShare} W main_arg0) ∗ (aLoc d ↦{fullShare} W main_arg1) ∗ (oLoc d ↦{fullShare} W main_v0)) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = allPts m d (m (oLoc d)) :=
  (bigSep_cores (corePts m d (m (oLoc d)))).trans (all_cores m d _).symm
theorem dn0_eq (d : Dev nD) : (bigSep Finset.univ fun c : Fin ((K (F := F)).nCore 0) => (P m).dn 0 d c) = allPts m d (res m d) :=
  (bigSep_cores (corePts m d (res m d))).trans (all_cores m d _).symm

/-- @main: the one call, from the three arrays; the arguments kept, the result written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ allPts m d (res m d) ∗ (K (F := F)).tcEnd d) := by
  unfold SparseCore.Cfg.tcRes SparseCore.Cfg.tcEnd
  rw [unscopedBufs_eq]
  simp only [main, wp_bind, wp_pure]
  iintro ⟨#Hctx, Hst, ⟨Hb, Hall, Hts, -⟩, -⟩
  iapply ((K (F := F)).wp_run (D (F := F)) 𝒱 (EH := EH) (P := P m) κ d 0) $$ [Hst Hall Hb Hts]
  isplitr; · iexact Hctx
  isplitl [Hst]; · iexact Hst
  isplitl [Hall]
  · rw [st0_eq]; unfold allPts; iexact Hall
  iintro ⟨Hst, Hdn⟩
  ihave Hdn := (Entails.of_eq (dn0_eq m d)) $$ Hdn
  imodintro
  isplitl [Hst]; · iexact Hst
  isplitl [Hdn]; · iexact Hdn
  isplitl [Hb] <;> iassumption

def fq (d : Dev nD) (s' : Phys nD τ sig (Elt F)) : Prop :=
  s'.mem.mem (zLoc d) = m (zLoc d) ∧ s'.mem.mem (aLoc d) = m (aLoc d) ∧ s'.mem.mem (oLoc d) = res m d

theorem hfin (d : Dev nD) (s' : Phys nD τ sig (Elt F)) : iprop(allPts m d (res m d) ∗ SI s') ⊢ (⌜fq m d s'⌝ : PP F) := by
  unfold allPts
  iintro ⟨⟨Hz, Ha, Ho⟩, HSI⟩
  ihave H := (persistent_entails_right (SI_pointsTo_agree (st := s') (ℓ := zLoc d) (I := Finset.univ) (q := fullShare) (f := m (zLoc d)))) $$ [HSI Hz]
  · isplitl [HSI] <;> iassumption
  icases H with ⟨%hz, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := oLoc d) (I := Finset.univ) (q := fullShare) (f := res m d)) $$ [HSI Ho]
  · isplitl [HSI] <;> iassumption
  icases H with %ho
  ipureintro
  exact ⟨funext fun i => hz i (Finset.mem_univ i), funext fun i => ha i (Finset.mem_univ i), funext fun i => ho i (Finset.mem_univ i)⟩

/-! ## The program's run -/

/-- At the end: the arguments as at launch, the result in place, every cell at zero. -/
def QC : PUnit × MemSt nD τ sig (Elt F) → Prop := fun r =>
  (∀ d : Dev nD, r.2.mem (zLoc d) = m (zLoc d) ∧ r.2.mem (aLoc d) = m (aLoc d) ∧ r.2.mem (oLoc d) = res m d) ∧ r.2.sem = fun _ => 0

include hcls in
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hcls facts)
    (fun q _ => match q with | 0 => SparseCore.Cfg.VecSplit.of_plain (vecSplit m))
    m ρ main (fun _ => iprop(emp)) (fun d => allPts m d (res m d)) (u₀ (F := F)) (sep_elim_left.trans (hu₀ m ρ)) (hmain m ρ) (fq m) (hfin m) (QC m) (fun _ h hz => ⟨h, hz⟩)

end Cert.Proof
-- ==== Proof.Class.lean ====
/-
  What the precondition says of `z`: the word that column 8 of each row converts to is below 64.
-/
module

public import proofs.«01_k».proof.Proof.Base
public import proofs.«01_k».proof.Proof.Gen.Pre_class_in_range
public import Idealize.ShloMosaic.Lib.ReduceAll
public import Idealize.ShloMosaic.Lib.ValueIdxCore
public import Idealize.ShloMosaic.Lib.WordCmp
public import Idealize.ShloMosaic.Lib.Pipeline.Value

@[expose] public section

noncomputable section

namespace Cert.Proof

open Cert.KernelIdeal Cert.KernelIdeal.Gen
open Idealize.ShloMosaic Idealize.ShloMosaic.ValueIdx

/-- The shape of one column of `z`. -/
abbrev SCol : Shape := Cert.Pre_class_in_range.S262144x1

variable {F : FTy → Type} [FloatOps F]

/-- Column 8 of `z` sliced out and read as a vector: entry `r` is `z[r, 8]`. -/
theorem column_at (Z : ZBuf F) (h : S262144x32.Slices ![0, 8] SCol) (h' : SCol.ShapeCasts S262144) (r : Fin 262144) :
    shapeCast S262144 (extractStridedSlice SCol ![0, 8] Z h) h' (oAt r) = Z (zAt r 8) := by
  rw [shapeCast_apply _ _ (oAt r) (ix2 r (0 : Fin 1)) (by
    rw [Shape.rowMajor_val_two, Shape.rowMajor_val_one]
    show r.val * 1 + 0 = r.val
    omega)]
  unfold extractStridedSlice
  refine congrArg Z (funext fun a => Fin.ext ?_)
  match a with
  | 0 => exact Nat.zero_add _
  | 1 => rfl

/-- Under the precondition every row's class, as an unsigned word, is below 64. -/
theorem cls_of_pre (Z : ZBuf F) (A : ABuf F) (h : Cert.Pre_class_in_range.fn (F := F) Z A = fun _ => 1#1) (r : Fin 262144) :
    (cls Z r).toNat < 64 := by
  have e := Host.reduce_andi_all _ _ _ _ (fun a => a.elim0) (congrFun h fun a => a.elim0) (oAt r)
  change IntOp.andi (IntOp.cmpi .sge (FloatOps.fptosi 32 (shapeCast S262144 (extractStridedSlice SCol ![0, 8] Z _) _ (oAt r))) 0#32)
    (IntOp.cmpi .slt (FloatOps.fptosi 32 (shapeCast S262144 (extractStridedSlice SCol ![0, 8] Z _) _ (oAt r))) (BitVec.ofNat 32 64)) = 1#1 at e
  rw [column_at] at e
  rw [WordCmp.andi_sge_zero_slt_ofNat (by decide)] at e
  exact (WordCmp.ofBool_decide_eq_one_iff _).1 e

end Cert.Proof

end
-- ==== Proof.Scatter.lean ====
/-
  A scatter of one scalar into each row of a matrix, by pairs of index words, whose first words are the row numbers: what each entry reads.
-/
module

public import Idealize.ShloMosaic.Lib.Routing.OpsSet

@[expose] public section

noncomputable section

namespace Cert.Proof

open Idealize.ShloMosaic Idealize.ShloMosaic.ValueIdx Idealize.ShloMosaic.Routing

theorem mem_two : ∀ q : Fin 2, q ∈ ([0, 1] : List (Fin 2)) := by decide
theorem idxOf_two : ∀ q : Fin 2, List.idxOf q ([0, 1] : List (Fin 2)) = q.val := by decide

/-- Update `a` of a scatter of `N` scalars into an `R × C` matrix, two index words each, lands at `(r, c)` exactly when its words, read signed,
    are `r` and `c`. -/
theorem lands_pair {R C N w : Nat} (d : ScatterDims (shape2 R C) (shape2 N 2) (shape1 N)) (hiw : d.insertedWindowDims = [0, 1])
    (hsd : d.scatterDimsToOperandDims = [0, 1]) (hivd : d.indexVectorDim = 1) (idx : IVec (shape2 N 2) w) (a : Fin N) (r : Fin R) (c : Fin C) :
    d.resultIdx? (ix1 a) idx = some (ix2 r c) ↔ (idx (ix2 a 0)).toInt = r.val ∧ (idx (ix2 a 1)).toInt = c.val := by
  have hm : ∀ q : Fin 2, q ∈ d.scatterDimsToOperandDims := fun q => hsd ▸ mem_two q
  have hwin : ∀ q : Fin 2, d.window (ix1 a) q = 0 := fun q =>
    dif_neg fun h => (of_decide_eq_true (List.mem_filter.1 h).2) (hiw ▸ mem_two q)
  have hstart : ∀ q : Fin 2, d.start (ix1 a) idx q = (idx (ix2 a q)).toInt := fun q => by
    unfold ScatterDims.start
    rw [dif_pos (hm q)]
    refine congrArg (fun i => (idx i).toInt) (funext fun b => Fin.ext ?_)
    unfold ScatterDims.siIdx
    match b with
    | ⟨0, _⟩ =>
      rw [dif_neg (by rw [hivd]; exact Nat.zero_ne_one)]
      unfold ScatterDims.siCoord
      exact congrArg (fun k : Fin 1 => (ix1 a k).val) (Subsingleton.elim _ 0)
    | ⟨1, _⟩ =>
      rw [dif_pos hivd.symm]
      show List.idxOf q d.scatterDimsToOperandDims = q.val
      rw [hsd]
      exact idxOf_two q
  rw [resultIdx?_ix2, hstart, hstart, hwin, hwin]
  omega

/-- Where update `a`'s words are `a` and the column `k a`, row `r` of the result holds its update in column `k r`, and the operand elsewhere. -/
theorem scatter_rows {α : Type} {R C w : Nat} (d : ScatterDims (shape2 R C) (shape2 R 2) (shape1 R)) (hiw : d.insertedWindowDims = [0, 1])
    (hsd : d.scatterDimsToOperandDims = [0, 1]) (hivd : d.indexVectorDim = 1) (x0 : (shape2 R C).Idx → α) (idx : IVec (shape2 R 2) w)
    (upd : (shape1 R).Idx → α) (k : Fin R → Fin C) (h0 : ∀ a, (idx (ix2 a 0)).toInt = a.val) (h1 : ∀ a, (idx (ix2 a 1)).toInt = (k a).val)
    (r : Fin R) (c : Fin C) :
    Host.scatter d (fun _ b => b) x0 idx upd (ix2 r c) = if c = k r then upd (ix1 r) else x0 (ix2 r c) := by
  have lands : ∀ a, d.resultIdx? (ix1 a) idx = some (ix2 r c) ↔ a = r ∧ c = k a := fun a => by
    rw [lands_pair d hiw hsd hivd, h0, h1, Fin.ext_iff, Fin.ext_iff]
    omega
  have lands' : ∀ j : (shape1 R).Idx, d.resultIdx? j idx = some (ix2 r c) → j 0 = r ∧ c = k (j 0) := fun j hj =>
    (lands (j 0)).1 ((congrArg (fun t => d.resultIdx? t idx) (eq_ix1 j).symm).trans hj)
  by_cases h : c = k r
  · rw [if_pos h]
    exact scatter_set_hit d x0 idx upd _ _ (fun j hj => (congrArg upd (eq_ix1 j)).trans (congrArg (fun t => upd (ix1 t)) (lands' j hj).1)) (ix1 r)
      ((lands r).2 ⟨rfl, h⟩)
  · rw [if_neg h]
    exact scatter_set_miss d x0 idx upd _ fun j hj => h ((lands' j hj).2.trans (congrArg k (lands' j hj).1))

end Cert.Proof

end
-- ==== Proof.Ref.lean ====
/-
  The reference's value: its scatter leaves, in each row, the one class column of the row at the constant, so the row's weighted sum
  is the kernel's product.
-/
module

public import proofs.«01_k».proof.Proof.Class
public import proofs.«01_k».proof.Proof.Scatter
public import proofs.«01_k».proof.Proof.Gen.ReferenceIdeal.Run
public import Idealize.ShloMosaic.Lib.Pointwise.Reduce
public import Idealize.ShloMosaic.PureOps.Ideal.Laws

@[expose] public section

noncomputable section

namespace Cert.Proof

open Cert.ReferenceIdeal Cert.ReferenceIdeal.Gen Idealize.ShloMosaic Idealize.ShloMosaic.Routing

/-- The two index words of row `r` in the reference's table of pairs, where the first table holds row numbers and the second no word that is
    negative: the wrap of each word leaves it as it is. -/
theorem words_at (x y a b : IVec S262144 32) (r : Fin 262144) (hx : x (oAt r) = BitVec.ofNat 32 r.val) (hy : (y (oAt r)).toNat < 64)
    (z z' : IVec S262144 32) (hz : z (oAt r) = 0#32) (hz' : z' (oAt r) = 0#32)
    (hb : S262144.BroadcastsInDim S262144x1 ![0]) (hc : Shape.Concatenates [S262144x1, S262144x1] S262144x2 1) :
    let t := concatenate S262144x2 1 [⟨S262144x1, broadcastInDim S262144x1 ![0] hb (select (cmpi .slt x z) a x)⟩,
      ⟨S262144x1, broadcastInDim S262144x1 ![0] hb (select (cmpi .slt y z') b y)⟩] hc
    (t (ValueIdx.ix2 r (0 : Fin 2))).toInt = r.val ∧ (t (ValueIdx.ix2 r (1 : Fin 2))).toInt = (y (oAt r)).toNat := by
  have hr := r.isLt
  have hb' : ∀ (v : IVec S262144 32), broadcastInDim S262144x1 ![0] hb v (ValueIdx.ix2 r (0 : Fin 1)) = v (oAt r) := fun v =>
    broadcastInDim_apply ![0] hb v _ (oAt r) fun | 0 => rfl
  refine ⟨?_, ?_⟩
  · rw [concatenate_pair_apply_left (t := S262144x2) (s₁ := S262144x1) (s₂ := S262144x1) 1 _ _ hc _ rfl (ValueIdx.ix2 r (0 : Fin 1))
      (fun | 0 => rfl | 1 => rfl), hb']
    show (Scalar.select (IntOp.cmpi .slt (x (oAt r)) (z (oAt r))) (a (oAt r)) (x (oAt r))).toInt = _
    rw [hz, hx, wrap_of_lt _ _ (by rw [BitVec.toNat_ofNat]; omega)]
    exact WordCmp.toInt_ofNat_of_lt (by omega)
  · rw [concatenate_pair_apply_right (t := S262144x2) (s₁ := S262144x1) (s₂ := S262144x1) 1 _ _ hc _ rfl rfl (ValueIdx.ix2 r (0 : Fin 1))
      (fun | 0 => fun _ => rfl | 1 => fun h => absurd rfl h) rfl, hb']
    show (Scalar.select (IntOp.cmpi .slt (y (oAt r)) (z' (oAt r))) (b (oAt r)) (y (oAt r))).toInt = _
    rw [hz', wrap_of_lt _ _ (by omega)]
    exact WordCmp.toInt_eq_toNat_of_lt_half (by omega)

/-- A row's sum against a row that is `v` in column `k` and zero elsewhere. -/
theorem sum_one_hot (f : Fin 64 → EReal) (k : Fin 64) (v : EReal) : ∑ c, f c * (if c = k then v else 0) = f k * v := by
  rw [Finset.sum_eq_single k (fun c _ h => by rw [if_neg h, mul_zero]) (fun h => absurd (Finset.mem_univ k) h), if_pos rfl]

/-- The reference's last two operations, over a matrix holding `v r` at `(r, k r)` and zero elsewhere. -/
theorem weighted (A W : FVec Ideal S262144x64 .f32) (k : Fin 262144 → Fin 64) (v : EReal)
    (hW : ∀ r c, W (ValueIdx.ix2 r c) = if c = k r then v else 0) (r : Fin 262144) :
    Host.reduceAdd (F := Ideal) (mulf A W) (constant S_ .f32 0x00000000#32) reducesTo_S262144x64_S262144_d1 h_S_ (oAt r) = A (aAt r (k r)) * v := by
  have hix : ∀ c : Fin 64, (ValueIdx.ix2 r c : S262144x64.Idx) = aAt r c := fun c => funext fun | 0 => rfl | 1 => rfl
  rw [Host.reduceAdd_apply, Ideal.hostReduceAdd_def, Ideal.hostReduceAdd_r2_a1]
  refine (congrArg (· + _) Ideal.ofBits_zero_f32).trans ((zero_add _).trans ?_)
  rw [← hix, ← sum_one_hot (fun c => A (ValueIdx.ix2 r c)) (k r) v]
  exact Finset.sum_congr rfl fun c _ => congrArg (A (ValueIdx.ix2 r c) * ·) (hW r c)

/-- The reference's classes, and its table of index pairs over any table of classes. -/
abbrev refCls (Z : FVec Ideal S262144x32 .f32) : IVec S262144 32 :=
  fptosi (F := Ideal) (φ := .f32) 32 (shapeCast S262144 (extractStridedSlice S262144x1 ![0, 8] Z slices_S262144x32_S262144x1_0_8) shapeCasts_S262144x1_S262144)

abbrev refPairs (y : IVec S262144 32) : IVec S262144x2 32 :=
  concatenate S262144x2 1
    [⟨S262144x1, broadcastInDim S262144x1 ![0] bcast_S262144_S262144x1_0 (select (cmpi .slt (iotaInDim S262144 32 0) (broadcastInDim S262144 ![] bcast_S_S262144 (constantI S_ 32 0#32)))
      (addi (iotaInDim S262144 32 0) (broadcastInDim S262144 ![] bcast_S_S262144 (constantI S_ 32 262144#32))) (iotaInDim S262144 32 0))⟩,
    ⟨S262144x1, broadcastInDim S262144x1 ![0] bcast_S262144_S262144x1_0 (select (cmpi .slt y (broadcastInDim S262144 ![] bcast_S_S262144 (constantI S_ 32 0#32)))
      (addi y (broadcastInDim S262144 ![] bcast_S_S262144 (constantI S_ 32 64#32))) y)⟩] concatenates_S262144x1_S262144x1_S262144x2_d1

/-- The reference's result of `z` and `a`. -/
abbrev refVal (Z : FVec Ideal S262144x32 .f32) (A : FVec Ideal S262144x64 .f32) : FVec Ideal S262144 .f32 :=
  Host.reduceAdd (mulf A (Host.scatter scatter_S262144x64_S262144x2_S262144_n_01_01_1 (fun _ b => b)
      (broadcastInDim S262144x64 ![] bcast_S_S262144x64 (constant S_ .f32 0x00000000#32)) (refPairs (refCls Z))
      (broadcastInDim S262144 ![] bcast_S_S262144 (constant S_ .f32 0x3F7FBE77#32))))
    (constant S_ .f32 0x00000000#32) reducesTo_S262144x64_S262144_d1 h_S_

/-- It is the kernel's. -/
theorem ref_value (Z : FVec Ideal S262144x32 .f32) (A : FVec Ideal S262144x64 .f32) (hcls : ∀ r, (cls (F := Ideal) Z r).toNat < 64) : refVal Z A = outB (F := Ideal) Z A := by
  have hy : ∀ r, refCls Z (oAt r) = cls (F := Ideal) Z r := fun r => congrArg (FloatOps.fptosi (F := Ideal) (φ := .f32) 32) (column_at (F := Ideal) Z slices_S262144x32_S262144x1_0_8 shapeCasts_S262144x1_S262144 r)
  unfold refVal
  generalize refCls Z = y at hy ⊢
  funext x
  have hx : x = oAt (x 0) := funext fun | 0 => rfl
  rw [hx]
  refine (weighted A _ (fun r => ⟨(cls (F := Ideal) Z r).toNat % 64, Nat.mod_lt _ (by decide)⟩) (Ideal.ofBits .f32 0x3F7FBE77#32) (fun r c => ?_) (x 0)).trans rfl
  have hw := fun r => words_at (iotaInDim S262144 32 0) y (addi (iotaInDim S262144 32 0) (broadcastInDim S262144 ![] bcast_S_S262144 (constantI S_ 32 262144#32)))
    (addi y (broadcastInDim S262144 ![] bcast_S_S262144 (constantI S_ 32 64#32))) r rfl (by rw [hy]; exact hcls r)
    (broadcastInDim S262144 ![] bcast_S_S262144 (constantI S_ 32 0#32)) (broadcastInDim S262144 ![] bcast_S_S262144 (constantI S_ 32 0#32)) rfl rfl
    bcast_S262144_S262144x1_0 concatenates_S262144x1_S262144x1_S262144x2_d1
  rw [scatter_rows (R := 262144) (C := 64) scatter_S262144x64_S262144x2_S262144_n_01_01_1 rfl rfl rfl _ _ _
    (fun r => ⟨(cls (F := Ideal) Z r).toNat % 64, Nat.mod_lt _ (by decide)⟩) (fun a => (hw a).1)
    (fun a => (hw a).2.trans (by rw [hy]; exact congrArg Nat.cast (Nat.mod_eq_of_lt (hcls a)).symm)) r c]
  exact congrArg (ite _ _) Ideal.ofBits_zero_f32

end Cert.Proof

end
-- ==== Proof.lean ====
/-
  The five claims. The kernel's run is proved once, over any float values (Proof/Launch.lean): its two frames are that run at the words
  and at the extended reals, and the value claim is the second beside the reference's run (Proof/Ref.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_class_in_range
public import proofs.«01_k».proof.Proof.Launch
public import proofs.«01_k».proof.Proof.Class
public import proofs.«01_k».proof.Proof.Ref
public import Idealize.ShloMosaic.Adequacy
public import Idealize.ShloMosaic.Init

@[expose] public section

noncomputable section

namespace Cert.Proof

open Idealize.ShloMosaic Idealize.SL.Sem Cert.Kernel

/-- From classes in range, the kernel ends without fault, its arguments as they were and every counter at zero. -/
theorem frame_kernel : Cert.quiescent_Kernel := fun m ρ h =>
  (θ_run Cert.KernelIdeal.defs _ _).mono (fun _ q => ⟨fun d => ⟨(q.1 d).1, (q.1 d).2.1⟩, q.2⟩)
    (run_main (F := Bits) m ρ fun d => cls_of_pre (F := Bits) _ _ (h d))

/-- The same over the extended reals. -/
theorem frame_kernelIdeal : Cert.quiescent_KernelIdeal := fun m ρ h =>
  (θ_run Cert.KernelIdeal.defs _ _).mono (fun _ q => ⟨fun d => ⟨(q.1 d).1, (q.1 d).2.1⟩, q.2⟩)
    (run_main (F := Ideal) m ρ fun d => cls_of_pre (F := Ideal) _ _ (h d))

/-- The same of the reference, which has no semaphores. -/
theorem frame_reference : Cert.quiescent_ReferenceIdeal := fun m ρ _ =>
  (θ_run Cert.ReferenceIdeal.defs _ _).mono (fun r q => ⟨fun d => (q d).2, sem_eq_zero_of_no_sems (by decide) r.2⟩)
    (Cert.ReferenceIdeal.Value.run (F := Ideal) m ρ)

/-- Both end with `a[r, class of row r] · 0.999` in entry `r`. -/
theorem algebraic : Cert.algebraic_KernelIdeal_ReferenceIdeal := fun m ρ m' ρ' h hagree => by
  have hcls := fun d => cls_of_pre (F := Ideal) _ _ (h d)
  refine ⟨fun d => res m d, (θ_run Cert.KernelIdeal.defs _ _).mono (fun _ q d => ⟨(q.1 d).2.2, (q.1 d).1, (q.1 d).2.1⟩) (run_main (F := Ideal) m ρ hcls),
    (θ_run Cert.ReferenceIdeal.defs _ _).mono (fun _ q d => ⟨(q d).1.trans
        ((congrArg₂ refVal (hagree d).1 (hagree d).2).trans (ref_value (m (zLoc d)) (m (aLoc d)) (hcls d))), (q d).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_class_in_range.Gen.facts,
    frame_kernel, frame_kernelIdeal, frame_reference, trivial, algebraic⟩

end Cert.Proof

end
